-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![512, 256]⟩ ⟨2, ![512, 4096]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![256, 512]⟩ ⟨2, ![4096, 512]⟩ 0 16 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v44) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S2x256x512 : Shape := ⟨3, ![2, 256, 512]⟩
abbrev S512x256 : Shape := ⟨2, ![512, 256]⟩
abbrev S2x256x64x64 : Shape := ⟨4, ![2, 256, 64, 64]⟩
abbrev S256x512 : Shape := ⟨2, ![256, 512]⟩
abbrev S_ : Shape := ⟨0, ![]⟩

class Facts : Prop where
  bcast_S_S2x256x512 : S_.BroadcastsInDim S2x256x512 (![] : Fin 0 → Fin S2x256x512.rank)
  reducesTo_S2x256x512_S_d0_1_2 : S2x256x512.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_
  bcast_S_S2x256x64x64 : S_.BroadcastsInDim S2x256x64x64 (![] : Fin 0 → Fin S2x256x64x64.rank)
  reducesTo_S2x256x64x64_S_d0_1_2_3 : S2x256x64x64.ReducesTo [0, 1, 2, 3] S_

variable [Facts]

def fn {F : FTy → Type} [FloatOps F] (main_arg0 : FVec F S2x256x512 .bf16) (main_arg1 : FVec F S512x256 .bf16) (main_arg2 : FVec F S2x256x64x64 .bf16) (main_arg3 : FVec F S2x256x64x64 .bf16) (main_arg4 : FVec F S256x512 .bf16) : IVec S_ 1 :=
  let main_v0 : FVec F S2x256x512 .bf16 := Host.absf main_arg0
  let main_cst : FVec F S_ .bf16 := constant S_ .bf16 0x7F80#16
  let main_v1 : FVec F S2x256x512 .bf16 := broadcastInDim S2x256x512 ![] bcast_S_S2x256x512 main_cst
  let main_v2 : IVec S2x256x512 1 := cmpf .olt main_v0 main_v1
  let main_c : IVec S_ 1 := constantI S_ 1 1#1
  let main_v3 : IVec S_ 1 := (fun x v => Host.reduce IntOp.andi x v reducesTo_S2x256x512_S_d0_1_2 h_S_) main_v2 main_c
  let main_v4 : FVec F S512x256 .bf16 := Host.absf main_arg1
  let main_cst_0 : FVec F S_ .bf16 := constant S_ .bf16 0x7F80#16
  let main_v5 : FVec F S512x256 .bf16 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S2x256x64x64 .bf16 := Host.absf main_arg2
  let main_cst_2 : FVec F S_ .bf16 := constant S_ .bf16 0x7F80#16
  let main_v10 : FVec F S2x256x64x64 .bf16 := broadcastInDim S2x256x64x64 ![] bcast_S_S2x256x64x64 main_cst_2
  let main_v11 : IVec S2x256x64x64 1 := cmpf .olt main_v9 main_v10
  let main_c_3 : IVec S_ 1 := constantI S_ 1 1#1
  let main_v12 : IVec S_ 1 := (fun x v => Host.reduce IntOp.andi x v reducesTo_S2x256x64x64_S_d0_1_2_3 h_S_) main_v11 main_c_3
  let main_v13 : IVec S_ 1 := andi main_v8 main_v12
  main_v13
-- ==== Pre_finite_scores_ReferenceIdeal.lean ====
abbrev S2x256x512 : Shape := ⟨3, ![2, 256, 512]⟩
abbrev S512x4096 : Shape := ⟨2, ![512, 4096]⟩
abbrev S2x256x64x64 : Shape := ⟨4, ![2, 256, 64, 64]⟩
abbrev S4096x512 : Shape := ⟨2, ![4096, 512]⟩
abbrev S_ : Shape := ⟨0, ![]⟩

class Facts : Prop where
  bcast_S_S2x256x512 : S_.BroadcastsInDim S2x256x512 (![] : Fin 0 → Fin S2x256x512.rank)
  reducesTo_S2x256x512_S_d0_1_2 : S2x256x512.ReducesTo [0, 1, 2] S_
  h_S_ : 0 < S_.numel
  bcast_S_S512x4096 : S_.BroadcastsInDim S512x4096 (![] : Fin 0 → Fin S512x4096.rank)
  reducesTo_S512x4096_S_d0_1 : S512x4096.ReducesTo [0, 1] S_
  bcast_S_S2x256x64x64 : S_.BroadcastsInDim S2x256x64x64 (![] : Fin 0 → Fin S2x256x64x64.rank)
  reducesTo_S2x256x64x64_S_d0_1_2_3 : S2x256x64x64.ReducesTo [0, 1, 2, 3] S_

variable [Facts]

def fn {F : FTy → Type} [FloatOps F] (main_arg0 : FVec F S2x256x512 .bf16) (main_arg1 : FVec F S512x4096 .bf16) (main_arg2 : FVec F S2x256x64x64 .bf16) (main_arg3 : FVec F S2x256x64x64 .bf16) (main_arg4 : FVec F S4096x512 .bf16) : IVec S_ 1 :=
  let main_v0 : FVec F S2x256x512 .bf16 := Host.absf main_arg0
  let main_cst : FVec F S_ .bf16 := constant S_ .bf16 0x7F80#16
  let main_v1 : FVec F S2x256x512 .bf16 := broadcastInDim S2x256x512 ![] bcast_S_S2x256x512 main_cst
  let main_v2 : IVec S2x256x512 1 := cmpf .olt main_v0 main_v1
  let main_c : IVec S_ 1 := constantI S_ 1 1#1
  let main_v3 : IVec S_ 1 := (fun x v => Host.reduce IntOp.andi x v reducesTo_S2x256x512_S_d0_1_2 h_S_) main_v2 main_c
  let main_v4 : FVec F S512x4096 .bf16 := Host.absf main_arg1
  let main_cst_0 : FVec F S_ .bf16 := constant S_ .bf16 0x7F80#16
  let main_v5 : FVec F S512x4096 .bf16 := broadcastInDim S512x4096 ![] bcast_S_S512x4096 main_cst_0
  let main_v6 : IVec S512x4096 1 := cmpf .olt main_v4 main_v5
  let main_c_1 : IVec S_ 1 := constantI S_ 1 1#1
  let main_v7 : IVec S_ 1 := (fun x v => Host.reduce IntOp.andi x v reducesTo_S512x4096_S_d0_1 h_S_) main_v6 main_c_1
  let main_v8 : IVec S_ 1 := andi main_v3 main_v7
  let main_v9 : FVec F S2x256x64x64 .bf16 := Host.absf main_arg2
  let main_cst_2 : FVec F S_ .bf16 := constant S_ .bf16 0x7F80#16
  let main_v10 : FVec F S2x256x64x64 .bf16 := broadcastInDim S2x256x64x64 ![] bcast_S_S2x256x64x64 main_cst_2
  let main_v11 : IVec S2x256x64x64 1 := cmpf .olt main_v9 main_v10
  let main_c_3 : IVec S_ 1 := constantI S_ 1 1#1
  let main_v12 : IVec S_ 1 := (fun x v => Host.reduce IntOp.andi x v reducesTo_S2x256x64x64_S_d0_1_2_3 h_S_) main_v11 main_c_3
  let main_v13 : IVec S_ 1 := andi main_v8 main_v12
  main_v13
-- ==== Kernel.lean ====
abbrev S2x256x512 : Shape := ⟨3, ![2, 256, 512]⟩
abbrev S512x256 : Shape := ⟨2, ![512, 256]⟩
abbrev S2x256x64x64 : Shape := ⟨4, ![2, 256, 64, 64]⟩
abbrev S256x512 : Shape := ⟨2, ![256, 512]⟩
abbrev S_ : Shape := ⟨0, ![]⟩
abbrev S2x256x4x64 : Shape := ⟨4, ![2, 256, 4, 64]⟩
abbrev S512x512 : Shape := ⟨2, ![512, 512]⟩
abbrev S16x32x512 : Shape := ⟨3, ![16, 32, 512]⟩
abbrev S16 : Shape := ⟨1, ![16]⟩
abbrev S256x256 : Shape := ⟨2, ![256, 256]⟩
abbrev S1x256x4x64 : Shape := ⟨4, ![1, 256, 4, 64]⟩
abbrev S256x4x64 : Shape := ⟨3, ![256, 4, 64]⟩
abbrev S256x64 : Shape := ⟨2, ![256, 64]⟩
abbrev S256 : Shape := ⟨1, ![256]⟩
abbrev S256x1 : Shape := ⟨2, ![256, 1]⟩
abbrev S1 : Shape := ⟨1, ![1]⟩
abbrev S1x32x512 : Shape := ⟨3, ![1, 32, 512]⟩
abbrev S32x512 : Shape := ⟨2, ![32, 512]⟩
abbrev S1x256x512 : Shape := ⟨3, ![1, 256, 512]⟩

abbrev nBuf : Space → Nat
  | .hbm => 34
  | .vmem => 11
  | .smem => 0
  | _ => 0

abbrev bufTy : (tb : Table) → Fin (tcTables nBuf tb) → BufTy
  | .hbm, ⟨0, _⟩ => ⟨S2x256x512, .bf16⟩
  | .hbm, ⟨1, _⟩ => ⟨S512x256, .bf16⟩
  | .hbm, ⟨2, _⟩ => ⟨S2x256x64x64, .bf16⟩
  | .hbm, ⟨3, _⟩ => ⟨S2x256x64x64, .bf16⟩
  | .hbm, ⟨4, _⟩ => ⟨S256x512, .bf16⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S2x256x4x64, .bf16⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i1⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S2x256x4x64, .bf16⟩
  | .hbm, ⟨33, _⟩ => ⟨S2x256x512, .f32⟩
  | .local _ .vmem, ⟨0, _⟩ => ⟨S2x256x512, .bf16⟩
  | .local _ .vmem, ⟨1, _⟩ => ⟨S512x256, .bf16⟩
  | .local _ .vmem, ⟨2, _⟩ => ⟨S2x256x4x64, .bf16⟩
  | .local _ .vmem, ⟨3, _⟩ => ⟨S2x256x4x64, .bf16⟩
  | .local _ .vmem, ⟨4, _⟩ => ⟨S256x512, .bf16⟩
  | .local _ .vmem, ⟨5, _⟩ => ⟨S2x256x512, .f32⟩
  | .local _ .vmem, ⟨6, _⟩ => ⟨S512x512, .f32⟩
  | .local _ .vmem, ⟨7, _⟩ => ⟨S512x512, .bf16⟩
  | .local _ .vmem, ⟨8, _⟩ => ⟨S16x32x512, .bf16⟩
  | .local _ .vmem, ⟨9, _⟩ => ⟨S512x512, .bf16⟩
  | .local _ .vmem, ⟨10, _⟩ => ⟨S512x256, .f32⟩
  | _, _ => ⟨S2x256x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 70 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | _ => false

abbrev sig : RefSig :=
  (ofTc nBuf bufTy 1 70 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_c_2 : Ref sig .tc := ⟨.hbm, 13, rfl⟩
abbrev main_v6 : Ref sig .tc := ⟨.hbm, 14, rfl⟩
abbrev main_c_3 : Ref sig .tc := ⟨.hbm, 15, rfl⟩
abbrev main_v7 : Ref sig .tc := ⟨.hbm, 16, rfl⟩
abbrev main_v8 : Ref sig .tc := ⟨.hbm, 17, rfl⟩
abbrev main_c_4 : Ref sig .tc := ⟨.hbm, 18, rfl⟩
abbrev main_c_5 : Ref sig .tc := ⟨.hbm, 19, rfl⟩
abbrev main_c_6 : Ref sig .tc := ⟨.hbm, 20, rfl⟩
abbrev main_v9 : Ref sig .tc := ⟨.hbm, 21, rfl⟩
abbrev main_c_7 : Ref sig .tc := ⟨.hbm, 22, rfl⟩
abbrev main_v10 : Ref sig .tc := ⟨.hbm, 23, rfl⟩
abbrev main_c_8 : Ref sig .tc := ⟨.hbm, 24, rfl⟩
abbrev main_v11 : Ref sig .tc := ⟨.hbm, 25, rfl⟩
abbrev main_c_9 : Ref sig .tc := ⟨.hbm, 26, rfl⟩
abbrev main_v12 : Ref sig .tc := ⟨.hbm, 27, rfl⟩
abbrev main_v13 : Ref sig .tc := ⟨.hbm, 28, rfl⟩
abbrev main_c_10 : Ref sig .tc := ⟨.hbm, 29, rfl⟩
abbrev main_c_11 : Ref sig .tc := ⟨.hbm, 30, rfl⟩
abbrev main_c_12 : Ref sig .tc := ⟨.hbm, 31, rfl⟩
abbrev main_v14 : Ref sig .tc := ⟨.hbm, 32, rfl⟩
abbrev main_v15 : Ref sig .tc := ⟨.hbm, 33, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let v5 : BitVec 32 := Scalar.remsi v4 c16_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v8 : BitVec 32 := Scalar.addi v2 c2_i32
  let c16_i32_4 : BitVec 32 := 16#32
  let v9 : BitVec 32 := Scalar.remsi v8 c16_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v12 : BitVec 32 := Scalar.addi v2 c3_i32
  let c16_i32_8 : BitVec 32 := 16#32
  let v13 : BitVec 32 := Scalar.remsi v12 c16_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v16 : BitVec 32 := Scalar.addi v2 c4_i32
  let c16_i32_12 : BitVec 32 := 16#32
  let v17 : BitVec 32 := Scalar.remsi v16 c16_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v20 : BitVec 32 := Scalar.addi v2 c5_i32
  let c16_i32_16 : BitVec 32 := 16#32
  let v21 : BitVec 32 := Scalar.remsi v20 c16_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v24 : BitVec 32 := Scalar.addi v2 c6_i32
  let c16_i32_20 : BitVec 32 := 16#32
  let v25 : BitVec 32 := Scalar.remsi v24 c16_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v28 : BitVec 32 := Scalar.addi v2 c7_i32
  let c16_i32_24 : BitVec 32 := 16#32
  let v29 : BitVec 32 := Scalar.remsi v28 c16_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v32 : BitVec 32 := Scalar.addi v2 c8_i32
  let c16_i32_28 : BitVec 32 := 16#32
  let v33 : BitVec 32 := Scalar.remsi v32 c16_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v36 : BitVec 32 := Scalar.addi v2 c9_i32
  let c16_i32_32 : BitVec 32 := 16#32
  let v37 : BitVec 32 := Scalar.remsi v36 c16_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v40 : BitVec 32 := Scalar.addi v2 c10_i32
  let c16_i32_36 : BitVec 32 := 16#32
  let v41 : BitVec 32 := Scalar.remsi v40 c16_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v44 : BitVec 32 := Scalar.addi v2 c11_i32
  let c16_i32_40 : BitVec 32 := 16#32
  let v45 : BitVec 32 := Scalar.remsi v44 c16_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v48 : BitVec 32 := Scalar.addi v2 c12_i32
  let c16_i32_44 : BitVec 32 := 16#32
  let v49 : BitVec 32 := Scalar.remsi v48 c16_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v52 : BitVec 32 := Scalar.addi v2 c13_i32
  let c16_i32_48 : BitVec 32 := 16#32
  let v53 : BitVec 32 := Scalar.remsi v52 c16_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v56 : BitVec 32 := Scalar.addi v2 c14_i32
  let c16_i32_52 : BitVec 32 := 16#32
  let v57 : BitVec 32 := Scalar.remsi v56 c16_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v60 : BitVec 32 := Scalar.addi v2 c15_i32
  let c16_i32_56 : BitVec 32 := 16#32
  let v61 : BitVec 32 := Scalar.remsi v60 c16_i32_56
  let c1_i32_58 : BitVec 32 := 1#32
  let v62 : BitVec 32 := Scalar.muli v61 c1_i32_58
  let v63 : BitVec 32 := Scalar.addi c0_i32_59 v62
  v63.toNat
def k0_off1 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off2 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_146 : BitVec 32 := 0#32
  let c0_i32_147 : BitVec 32 := 0#32
  ![v2.toNat, 0, 0]
def k0_off3 (d0 : Dev nD) (c1_i32_141 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v271 : BitVec 32 := Scalar.addi v2 c1_i32_141
  let c16_i32_142 : BitVec 32 := 16#32
  let v272 : BitVec 32 := Scalar.remsi v271 c16_i32_142
  let c32_i32 : BitVec 32 := 32#32
  let v273 : BitVec 32 := Scalar.muli v272 c32_i32
  let c0_i32_148 : BitVec 32 := 0#32
  ![v273.toNat, 0]
def k0_dev16 (d0 : Dev nD) : Nat :=
  let c0_i32_145 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_141 : BitVec 32 := 1#32
  let v271 : BitVec 32 := Scalar.addi v2 c1_i32_141
  let c16_i32_142 : BitVec 32 := 16#32
  let v272 : BitVec 32 := Scalar.remsi v271 c16_i32_142
  let c1_i32_144 : BitVec 32 := 1#32
  let v274 : BitVec 32 := Scalar.muli v272 c1_i32_144
  let v275 : BitVec 32 := Scalar.addi c0_i32_145 v274
  v275.toNat
def k0_dev17 (d0 : Dev nD) : Nat :=
  let c0_i32_154 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_149 : BitVec 32 := 2#32
  let v283 : BitVec 32 := Scalar.addi v2 c2_i32_149
  let c16_i32_150 : BitVec 32 := 16#32
  let v284 : BitVec 32 := Scalar.remsi v283 c16_i32_150
  let c1_i32_153 : BitVec 32 := 1#32
  let v286 : BitVec 32 := Scalar.muli v284 c1_i32_153
  let v287 : BitVec 32 := Scalar.addi c0_i32_154 v286
  v287.toNat
def k0_dev18 (d0 : Dev nD) : Nat :=
  let c0_i32_163 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_158 : BitVec 32 := 3#32
  let v295 : BitVec 32 := Scalar.addi v2 c3_i32_158
  let c16_i32_159 : BitVec 32 := 16#32
  let v296 : BitVec 32 := Scalar.remsi v295 c16_i32_159
  let c1_i32_162 : BitVec 32 := 1#32
  let v298 : BitVec 32 := Scalar.muli v296 c1_i32_162
  let v299 : BitVec 32 := Scalar.addi c0_i32_163 v298
  v299.toNat
def k0_dev19 (d0 : Dev nD) : Nat :=
  let c0_i32_172 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_167 : BitVec 32 := 4#32
  let v307 : BitVec 32 := Scalar.addi v2 c4_i32_167
  let c16_i32_168 : BitVec 32 := 16#32
  let v308 : BitVec 32 := Scalar.remsi v307 c16_i32_168
  let c1_i32_171 : BitVec 32 := 1#32
  let v310 : BitVec 32 := Scalar.muli v308 c1_i32_171
  let v311 : BitVec 32 := Scalar.addi c0_i32_172 v310
  v311.toNat
def k0_dev20 (d0 : Dev nD) : Nat :=
  let c0_i32_181 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_176 : BitVec 32 := 5#32
  let v319 : BitVec 32 := Scalar.addi v2 c5_i32_176
  let c16_i32_177 : BitVec 32 := 16#32
  let v320 : BitVec 32 := Scalar.remsi v319 c16_i32_177
  let c1_i32_180 : BitVec 32 := 1#32
  let v322 : BitVec 32 := Scalar.muli v320 c1_i32_180
  let v323 : BitVec 32 := Scalar.addi c0_i32_181 v322
  v323.toNat
def k0_dev21 (d0 : Dev nD) : Nat :=
  let c0_i32_190 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_185 : BitVec 32 := 6#32
  let v331 : BitVec 32 := Scalar.addi v2 c6_i32_185
  let c16_i32_186 : BitVec 32 := 16#32
  let v332 : BitVec 32 := Scalar.remsi v331 c16_i32_186
  let c1_i32_189 : BitVec 32 := 1#32
  let v334 : BitVec 32 := Scalar.muli v332 c1_i32_189
  let v335 : BitVec 32 := Scalar.addi c0_i32_190 v334
  v335.toNat
def k0_dev22 (d0 : Dev nD) : Nat :=
  let c0_i32_199 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_194 : BitVec 32 := 7#32
  let v343 : BitVec 32 := Scalar.addi v2 c7_i32_194
  let c16_i32_195 : BitVec 32 := 16#32
  let v344 : BitVec 32 := Scalar.remsi v343 c16_i32_195
  let c1_i32_198 : BitVec 32 := 1#32
  let v346 : BitVec 32 := Scalar.muli v344 c1_i32_198
  let v347 : BitVec 32 := Scalar.addi c0_i32_199 v346
  v347.toNat
def k0_dev23 (d0 : Dev nD) : Nat :=
  let c0_i32_208 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_203 : BitVec 32 := 8#32
  let v355 : BitVec 32 := Scalar.addi v2 c8_i32_203
  let c16_i32_204 : BitVec 32 := 16#32
  let v356 : BitVec 32 := Scalar.remsi v355 c16_i32_204
  let c1_i32_207 : BitVec 32 := 1#32
  let v358 : BitVec 32 := Scalar.muli v356 c1_i32_207
  let v359 : BitVec 32 := Scalar.addi c0_i32_208 v358
  v359.toNat
def k0_dev24 (d0 : Dev nD) : Nat :=
  let c0_i32_217 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_212 : BitVec 32 := 9#32
  let v367 : BitVec 32 := Scalar.addi v2 c9_i32_212
  let c16_i32_213 : BitVec 32 := 16#32
  let v368 : BitVec 32 := Scalar.remsi v367 c16_i32_213
  let c1_i32_216 : BitVec 32 := 1#32
  let v370 : BitVec 32 := Scalar.muli v368 c1_i32_216
  let v371 : BitVec 32 := Scalar.addi c0_i32_217 v370
  v371.toNat
def k0_dev25 (d0 : Dev nD) : Nat :=
  let c0_i32_226 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_221 : BitVec 32 := 10#32
  let v379 : BitVec 32 := Scalar.addi v2 c10_i32_221
  let c16_i32_222 : BitVec 32 := 16#32
  let v380 : BitVec 32 := Scalar.remsi v379 c16_i32_222
  let c1_i32_225 : BitVec 32 := 1#32
  let v382 : BitVec 32 := Scalar.muli v380 c1_i32_225
  let v383 : BitVec 32 := Scalar.addi c0_i32_226 v382
  v383.toNat
def k0_dev26 (d0 : Dev nD) : Nat :=
  let c0_i32_235 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_230 : BitVec 32 := 11#32
  let v391 : BitVec 32 := Scalar.addi v2 c11_i32_230
  let c16_i32_231 : BitVec 32 := 16#32
  let v392 : BitVec 32 := Scalar.remsi v391 c16_i32_231
  let c1_i32_234 : BitVec 32 := 1#32
  let v394 : BitVec 32 := Scalar.muli v392 c1_i32_234
  let v395 : BitVec 32 := Scalar.addi c0_i32_235 v394
  v395.toNat
def k0_dev27 (d0 : Dev nD) : Nat :=
  let c0_i32_244 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_239 : BitVec 32 := 12#32
  let v403 : BitVec 32 := Scalar.addi v2 c12_i32_239
  let c16_i32_240 : BitVec 32 := 16#32
  let v404 : BitVec 32 := Scalar.remsi v403 c16_i32_240
  let c1_i32_243 : BitVec 32 := 1#32
  let v406 : BitVec 32 := Scalar.muli v404 c1_i32_243
  let v407 : BitVec 32 := Scalar.addi c0_i32_244 v406
  v407.toNat
def k0_dev28 (d0 : Dev nD) : Nat :=
  let c0_i32_253 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_248 : BitVec 32 := 13#32
  let v415 : BitVec 32 := Scalar.addi v2 c13_i32_248
  let c16_i32_249 : BitVec 32 := 16#32
  let v416 : BitVec 32 := Scalar.remsi v415 c16_i32_249
  let c1_i32_252 : BitVec 32 := 1#32
  let v418 : BitVec 32 := Scalar.muli v416 c1_i32_252
  let v419 : BitVec 32 := Scalar.addi c0_i32_253 v418
  v419.toNat
def k0_dev29 (d0 : Dev nD) : Nat :=
  let c0_i32_262 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_257 : BitVec 32 := 14#32
  let v427 : BitVec 32 := Scalar.addi v2 c14_i32_257
  let c16_i32_258 : BitVec 32 := 16#32
  let v428 : BitVec 32 := Scalar.remsi v427 c16_i32_258
  let c1_i32_261 : BitVec 32 := 1#32
  let v430 : BitVec 32 := Scalar.muli v428 c1_i32_261
  let v431 : BitVec 32 := Scalar.addi c0_i32_262 v430
  v431.toNat
def k0_dev30 (d0 : Dev nD) : Nat :=
  let c0_i32_271 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_266 : BitVec 32 := 15#32
  let v439 : BitVec 32 := Scalar.addi v2 c15_i32_266
  let c16_i32_267 : BitVec 32 := 16#32
  let v440 : BitVec 32 := Scalar.remsi v439 c16_i32_267
  let c1_i32_270 : BitVec 32 := 1#32
  let v442 : BitVec 32 := Scalar.muli v440 c1_i32_270
  let v443 : BitVec 32 := Scalar.addi c0_i32_271 v442
  v443.toNat
def k0_off4 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v452 : Index := Scalar.indexCast v2
  let c0_276 : Index := 0#32
  let c0_277 : Index := 0#32
  ![v452.toNat, 0, 0]
def k0_off5 (d0 : Dev nD) (c1_i32_278 : BitVec 32) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v456 : BitVec 32 := Scalar.addi v2 c1_i32_278
  let c16_i32_279 : BitVec 32 := 16#32
  let v457 : BitVec 32 := Scalar.remsi v456 c16_i32_279
  ![v457.toNat]
def k0_off6 (d0 : Dev nD) (c1_i32_278 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v456 : BitVec 32 := Scalar.addi v2 c1_i32_278
  let c16_i32_279 : BitVec 32 := 16#32
  let v457 : BitVec 32 := Scalar.remsi v456 c16_i32_279
  let c0_i32_283 : BitVec 32 := 0#32
  let c0_i32_284 : BitVec 32 := 0#32
  ![v457.toNat, 0, 0]
def k0_off7 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_413 : BitVec 32 := 32#32
  let v591 : BitVec 32 := Scalar.muli v2 c32_i32_413
  let v592 : Index := Scalar.indexCast v591
  let c0_414 : Index := 0#32
  ![v592.toNat, 0]
def k0_off8 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_424 : BitVec 32 := 32#32
  let v607 : BitVec 32 := Scalar.muli v2 c32_i32_424
  let c0_i32_428 : BitVec 32 := 0#32
  ![v607.toNat, 0]
def k0_dev31 (d0 : Dev nD) : Nat :=
  let c0_i32_427 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_421 : BitVec 32 := 1#32
  let v604 : BitVec 32 := Scalar.addi v2 c1_i32_421
  let c16_i32_422 : BitVec 32 := 16#32
  let v605 : BitVec 32 := Scalar.remsi v604 c16_i32_422
  let c1_i32_426 : BitVec 32 := 1#32
  let v608 : BitVec 32 := Scalar.muli v605 c1_i32_426
  let v609 : BitVec 32 := Scalar.addi c0_i32_427 v608
  v609.toNat
def k0_dev32 (d0 : Dev nD) : Nat :=
  let c0_i32_436 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_430 : BitVec 32 := 2#32
  let v616 : BitVec 32 := Scalar.addi v2 c2_i32_430
  let c16_i32_431 : BitVec 32 := 16#32
  let v617 : BitVec 32 := Scalar.remsi v616 c16_i32_431
  let c1_i32_435 : BitVec 32 := 1#32
  let v620 : BitVec 32 := Scalar.muli v617 c1_i32_435
  let v621 : BitVec 32 := Scalar.addi c0_i32_436 v620
  v621.toNat
def k0_dev33 (d0 : Dev nD) : Nat :=
  let c0_i32_445 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_439 : BitVec 32 := 3#32
  let v628 : BitVec 32 := Scalar.addi v2 c3_i32_439
  let c16_i32_440 : BitVec 32 := 16#32
  let v629 : BitVec 32 := Scalar.remsi v628 c16_i32_440
  let c1_i32_444 : BitVec 32 := 1#32
  let v632 : BitVec 32 := Scalar.muli v629 c1_i32_444
  let v633 : BitVec 32 := Scalar.addi c0_i32_445 v632
  v633.toNat
def k0_dev34 (d0 : Dev nD) : Nat :=
  let c0_i32_454 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_448 : BitVec 32 := 4#32
  let v640 : BitVec 32 := Scalar.addi v2 c4_i32_448
  let c16_i32_449 : BitVec 32 := 16#32
  let v641 : BitVec 32 := Scalar.remsi v640 c16_i32_449
  let c1_i32_453 : BitVec 32 := 1#32
  let v644 : BitVec 32 := Scalar.muli v641 c1_i32_453
  let v645 : BitVec 32 := Scalar.addi c0_i32_454 v644
  v645.toNat
def k0_dev35 (d0 : Dev nD) : Nat :=
  let c0_i32_463 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_457 : BitVec 32 := 5#32
  let v652 : BitVec 32 := Scalar.addi v2 c5_i32_457
  let c16_i32_458 : BitVec 32 := 16#32
  let v653 : BitVec 32 := Scalar.remsi v652 c16_i32_458
  let c1_i32_462 : BitVec 32 := 1#32
  let v656 : BitVec 32 := Scalar.muli v653 c1_i32_462
  let v657 : BitVec 32 := Scalar.addi c0_i32_463 v656
  v657.toNat
def k0_dev36 (d0 : Dev nD) : Nat :=
  let c0_i32_472 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_466 : BitVec 32 := 6#32
  let v664 : BitVec 32 := Scalar.addi v2 c6_i32_466
  let c16_i32_467 : BitVec 32 := 16#32
  let v665 : BitVec 32 := Scalar.remsi v664 c16_i32_467
  let c1_i32_471 : BitVec 32 := 1#32
  let v668 : BitVec 32 := Scalar.muli v665 c1_i32_471
  let v669 : BitVec 32 := Scalar.addi c0_i32_472 v668
  v669.toNat
def k0_dev37 (d0 : Dev nD) : Nat :=
  let c0_i32_481 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_475 : BitVec 32 := 7#32
  let v676 : BitVec 32 := Scalar.addi v2 c7_i32_475
  let c16_i32_476 : BitVec 32 := 16#32
  let v677 : BitVec 32 := Scalar.remsi v676 c16_i32_476
  let c1_i32_480 : BitVec 32 := 1#32
  let v680 : BitVec 32 := Scalar.muli v677 c1_i32_480
  let v681 : BitVec 32 := Scalar.addi c0_i32_481 v680
  v681.toNat
def k0_dev38 (d0 : Dev nD) : Nat :=
  let c0_i32_490 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_484 : BitVec 32 := 8#32
  let v688 : BitVec 32 := Scalar.addi v2 c8_i32_484
  let c16_i32_485 : BitVec 32 := 16#32
  let v689 : BitVec 32 := Scalar.remsi v688 c16_i32_485
  let c1_i32_489 : BitVec 32 := 1#32
  let v692 : BitVec 32 := Scalar.muli v689 c1_i32_489
  let v693 : BitVec 32 := Scalar.addi c0_i32_490 v692
  v693.toNat
def k0_dev39 (d0 : Dev nD) : Nat :=
  let c0_i32_499 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_493 : BitVec 32 := 9#32
  let v700 : BitVec 32 := Scalar.addi v2 c9_i32_493
  let c16_i32_494 : BitVec 32 := 16#32
  let v701 : BitVec 32 := Scalar.remsi v700 c16_i32_494
  let c1_i32_498 : BitVec 32 := 1#32
  let v704 : BitVec 32 := Scalar.muli v701 c1_i32_498
  let v705 : BitVec 32 := Scalar.addi c0_i32_499 v704
  v705.toNat
def k0_dev40 (d0 : Dev nD) : Nat :=
  let c0_i32_508 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_502 : BitVec 32 := 10#32
  let v712 : BitVec 32 := Scalar.addi v2 c10_i32_502
  let c16_i32_503 : BitVec 32 := 16#32
  let v713 : BitVec 32 := Scalar.remsi v712 c16_i32_503
  let c1_i32_507 : BitVec 32 := 1#32
  let v716 : BitVec 32 := Scalar.muli v713 c1_i32_507
  let v717 : BitVec 32 := Scalar.addi c0_i32_508 v716
  v717.toNat
def k0_dev41 (d0 : Dev nD) : Nat :=
  let c0_i32_517 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_511 : BitVec 32 := 11#32
  let v724 : BitVec 32 := Scalar.addi v2 c11_i32_511
  let c16_i32_512 : BitVec 32 := 16#32
  let v725 : BitVec 32 := Scalar.remsi v724 c16_i32_512
  let c1_i32_516 : BitVec 32 := 1#32
  let v728 : BitVec 32 := Scalar.muli v725 c1_i32_516
  let v729 : BitVec 32 := Scalar.addi c0_i32_517 v728
  v729.toNat
def k0_dev42 (d0 : Dev nD) : Nat :=
  let c0_i32_526 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_520 : BitVec 32 := 12#32
  let v736 : BitVec 32 := Scalar.addi v2 c12_i32_520
  let c16_i32_521 : BitVec 32 := 16#32
  let v737 : BitVec 32 := Scalar.remsi v736 c16_i32_521
  let c1_i32_525 : BitVec 32 := 1#32
  let v740 : BitVec 32 := Scalar.muli v737 c1_i32_525
  let v741 : BitVec 32 := Scalar.addi c0_i32_526 v740
  v741.toNat
def k0_dev43 (d0 : Dev nD) : Nat :=
  let c0_i32_535 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_529 : BitVec 32 := 13#32
  let v748 : BitVec 32 := Scalar.addi v2 c13_i32_529
  let c16_i32_530 : BitVec 32 := 16#32
  let v749 : BitVec 32 := Scalar.remsi v748 c16_i32_530
  let c1_i32_534 : BitVec 32 := 1#32
  let v752 : BitVec 32 := Scalar.muli v749 c1_i32_534
  let v753 : BitVec 32 := Scalar.addi c0_i32_535 v752
  v753.toNat
def k0_dev44 (d0 : Dev nD) : Nat :=
  let c0_i32_544 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_538 : BitVec 32 := 14#32
  let v760 : BitVec 32 := Scalar.addi v2 c14_i32_538
  let c16_i32_539 : BitVec 32 := 16#32
  let v761 : BitVec 32 := Scalar.remsi v760 c16_i32_539
  let c1_i32_543 : BitVec 32 := 1#32
  let v764 : BitVec 32 := Scalar.muli v761 c1_i32_543
  let v765 : BitVec 32 := Scalar.addi c0_i32_544 v764
  v765.toNat
def k0_dev45 (d0 : Dev nD) : Nat :=
  let c0_i32_553 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_547 : BitVec 32 := 15#32
  let v772 : BitVec 32 := Scalar.addi v2 c15_i32_547
  let c16_i32_548 : BitVec 32 := 16#32
  let v773 : BitVec 32 := Scalar.remsi v772 c16_i32_548
  let c1_i32_552 : BitVec 32 := 1#32
  let v776 : BitVec 32 := Scalar.muli v773 c1_i32_552
  let v777 : BitVec 32 := Scalar.addi c0_i32_553 v776
  v777.toNat
abbrev stage0_0 : Fin 1 → Memref sig .tc .vmem S2x256x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x256x4x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x256x4x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S2x256x512 : Shape := ⟨3, ![2, 256, 512]⟩
abbrev S512x4096 : Shape := ⟨2, ![512, 4096]⟩
abbrev S2x256x64x64 : Shape := ⟨4, ![2, 256, 64, 64]⟩
abbrev S4096x512 : Shape := ⟨2, ![4096, 512]⟩
abbrev S2x256x4096 : Shape := ⟨3, ![2, 256, 4096]⟩
abbrev S256 : Shape := ⟨1, ![256]⟩
abbrev S_ : Shape := ⟨0, ![]⟩
abbrev S256x1 : Shape := ⟨2, ![256, 1]⟩
abbrev S1x256 : Shape := ⟨2, ![1, 256]⟩
abbrev S256x256 : Shape := ⟨2, ![256, 256]⟩
abbrev S2x64x256x256 : Shape := ⟨4, ![2, 64, 256, 256]⟩
abbrev S1x1x256x256 : Shape := ⟨4, ![1, 1, 256, 256]⟩
abbrev S2x64x256 : Shape := ⟨3, ![2, 64, 256]⟩
abbrev S2x64x256x1 : Shape := ⟨4, ![2, 64, 256, 1]⟩
abbrev S1x1x256x1 : Shape := ⟨4, ![1, 1, 256, 1]⟩
abbrev S2x64x64x256 : Shape := ⟨4, ![2, 64, 64, 256]⟩

abbrev nBuf : Space → Nat
  | .hbm => 142
  | .vmem => 0
  | .smem => 0
  | _ => 0

abbrev hbmTy0_0 (i : Nat) : BufTy := match i % 128 with
  | 0 => ⟨S2x256x512, .bf16⟩
  | 1 => ⟨S512x4096, .bf16⟩
  | 2 => ⟨S2x256x64x64, .bf16⟩
  | 3 => ⟨S2x256x64x64, .bf16⟩
  | 4 => ⟨S4096x512, .bf16⟩
  | 5 => ⟨S2x256x512, .f32⟩
  | 6 => ⟨S512x4096, .f32⟩
  | 7 => ⟨S2x256x64x64, .f32⟩
  | 8 => ⟨S2x256x64x64, .f32⟩
  | 9 => ⟨S4096x512, .f32⟩
  | 10 => ⟨S2x256x4096, .f32⟩
  | 11 => ⟨S2x256x64x64, .f32⟩
  | 12 => ⟨S256, .i32⟩
  | 13 => ⟨S_, .i32⟩
  | 14 => ⟨S_, .i32⟩
  | 15 => ⟨S256, .i32⟩
  | 16 => ⟨S256, .i32⟩
  | 17 => ⟨S256, .i32⟩
  | 18 => ⟨S_, .i32⟩
  | 19 => ⟨S256, .i32⟩
  | 20 => ⟨S256, .i1⟩
  | 21 => ⟨S256, .i32⟩
  | 22 => ⟨S256, .i32⟩
  | 23 => ⟨S_, .i32⟩
  | 24 => ⟨S256, .i32⟩
  | 25 => ⟨S256, .i1⟩
  | 26 => ⟨S256, .i1⟩
  | 27 => ⟨S_, .i32⟩
  | 28 => ⟨S256, .i32⟩
  | 29 => ⟨S256, .i32⟩
  | 30 => ⟨S256, .i32⟩
  | 31 => ⟨S256x1, .i32⟩
  | 32 => ⟨S256, .i32⟩
  | 33 => ⟨S_, .i32⟩
  | 34 => ⟨S_, .i32⟩
  | 35 => ⟨S256, .i32⟩
  | 36 => ⟨S256, .i32⟩
  | 37 => ⟨S256, .i32⟩
  | 38 => ⟨S_, .i32⟩
  | 39 => ⟨S256, .i32⟩
  | 40 => ⟨S256, .i1⟩
  | 41 => ⟨S256, .i32⟩
  | 42 => ⟨S256, .i32⟩
  | 43 => ⟨S_, .i32⟩
  | 44 => ⟨S256, .i32⟩
  | 45 => ⟨S256, .i1⟩
  | 46 => ⟨S256, .i1⟩
  | 47 => ⟨S_, .i32⟩
  | 48 => ⟨S256, .i32⟩
  | 49 => ⟨S256, .i32⟩
  | 50 => ⟨S256, .i32⟩
  | 51 => ⟨S1x256, .i32⟩
  | 52 => ⟨S256x256, .i32⟩
  | 53 => ⟨S256x256, .i32⟩
  | 54 => ⟨S256x256, .i1⟩
  | 55 => ⟨S_, .i32⟩
  | 56 => ⟨S_, .i32⟩
  | 57 => ⟨S_, .i32⟩
  | 58 => ⟨S_, .i1⟩
  | 59 => ⟨S_, .i32⟩
  | 60 => ⟨S_, .i32⟩
  | 61 => ⟨S1x256, .i32⟩
  | 62 => ⟨S1x256, .i32⟩
  | 63 => ⟨S_, .i32⟩
  | 64 => ⟨S1x256, .i32⟩
  | 65 => ⟨S1x256, .i1⟩
  | 66 => ⟨S_, .i32⟩
  | 67 => ⟨S1x256, .i32⟩
  | 68 => ⟨S1x256, .i1⟩
  | 69 => ⟨S_, .i32⟩
  | 70 => ⟨S_, .i1⟩
  | 71 => ⟨S1x256, .i1⟩
  | 72 => ⟨S1x256, .i1⟩
  | 73 => ⟨S1x256, .i1⟩
  | 74 => ⟨S1x256, .i32⟩
  | 75 => ⟨S1x256, .i32⟩
  | 76 => ⟨S1x256, .i32⟩
  | 77 => ⟨S_, .i32⟩
  | 78 => ⟨S_, .i32⟩
  | 79 => ⟨S_, .i32⟩
  | 80 => ⟨S_, .i1⟩
  | 81 => ⟨S_, .i32⟩
  | 82 => ⟨S_, .i32⟩
  | 83 => ⟨S256x1, .i32⟩
  | 84 => ⟨S256x1, .i32⟩
  | 85 => ⟨S_, .i32⟩
  | 86 => ⟨S256x1, .i32⟩
  | 87 => ⟨S256x1, .i1⟩
  | 88 => ⟨S_, .i32⟩
  | 89 => ⟨S256x1, .i32⟩
  | 90 => ⟨S256x1, .i1⟩
  | 91 => ⟨S_, .i32⟩
  | 92 => ⟨S_, .i1⟩
  | 93 => ⟨S256x1, .i1⟩
  | 94 => ⟨S256x1, .i1⟩
  | 95 => ⟨S256x1, .i1⟩
  | 96 => ⟨S256x1, .i32⟩
  | 97 => ⟨S256x1, .i32⟩
  | 98 => ⟨S256x1, .i32⟩
  | 99 => ⟨S256x256, .i32⟩
  | 100 => ⟨S256x256, .i32⟩
  | 101 => ⟨S256x256, .i1⟩
  | 102 => ⟨S256x256, .i1⟩
  | 103 => ⟨S2x64x256x256, .f32⟩
  | 104 => ⟨S_, .f32⟩
  | 105 => ⟨S2x64x256x256, .f32⟩
  | 106 => ⟨S2x64x256x256, .f32⟩
  | 107 => ⟨S1x1x256x256, .i1⟩
  | 108 => ⟨S_, .f32⟩
  | 109 => ⟨S_, .f32⟩
  | 110 => ⟨S2x64x256x256, .i1⟩
  | 111 => ⟨S2x64x256x256, .f32⟩
  | 112 => ⟨S2x64x256x256, .f32⟩
  | 113 => ⟨S_, .f32⟩
  | 114 => ⟨S2x64x256, .f32⟩
  | 115 => ⟨S2x64x256x1, .f32⟩
  | 116 => ⟨S2x64x256x256, .f32⟩
  | 117 => ⟨S2x64x256x256, .f32⟩
  | 118 => ⟨S2x64x256x256, .f32⟩
  | 119 => ⟨S_, .i1⟩
  | 120 => ⟨S256, .i1⟩
  | 121 => ⟨S1x1x256x1, .i1⟩
  | 122 => ⟨S_, .f32⟩
  | 123 => ⟨S2x64x256, .f32⟩
  | 124 => ⟨S2x64x256x1, .f32⟩
  | 125 => ⟨S_, .f32⟩
  | 126 => ⟨S_, .f32⟩
  | 127 => ⟨S2x64x256x1, .i1⟩
  | _ => ⟨S2x256x512, .bf16⟩

abbrev hbmTy0_1 (i : Nat) : BufTy := match i % 128 with
  | 0 => ⟨S2x64x256x1, .f32⟩
  | 1 => ⟨S2x64x256x1, .f32⟩
  | 2 => ⟨S2x64x256x256, .f32⟩
  | 3 => ⟨S2x64x256x256, .f32⟩
  | 4 => ⟨S1x1x256x1, .i1⟩
  | 5 => ⟨S_, .f32⟩
  | 6 => ⟨S_, .f32⟩
  | 7 => ⟨S2x64x256x256, .i1⟩
  | 8 => ⟨S2x64x256x256, .f32⟩
  | 9 => ⟨S2x64x256x256, .f32⟩
  | 10 => ⟨S2x64x64x256, .f32⟩
  | 11 => ⟨S2x256x64x64, .f32⟩
  | 12 => ⟨S2x256x4096, .f32⟩
  | 13 => ⟨S2x256x512, .f32⟩
  | _ => ⟨S2x256x512, .bf16⟩

abbrev hbmTy (i : Nat) : BufTy := match i / 128 with
  | 0 => hbmTy0_0 i
  | 1 => hbmTy0_1 i
  | _ => ⟨S2x256x512, .bf16⟩

abbrev bufTy : (tb : Table) → Fin (tcTables nBuf tb) → BufTy
  | .hbm, ⟨i, _⟩ => hbmTy i
  | _, _ => ⟨S2x256x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_c : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_0 : Ref sig .tc := ⟨.hbm, 27, rfl⟩
abbrev main_call0_v12 : Ref sig .tc := ⟨.hbm, 28, rfl⟩
abbrev main_call0_v13 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_c_0 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_c : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_0 : Ref sig .tc := ⟨.hbm, 47, rfl⟩
abbrev main_call1_v12 : Ref sig .tc := ⟨.hbm, 48, rfl⟩
abbrev main_call1_v13 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_c_1 : Ref sig .tc := ⟨.hbm, 55, rfl⟩
abbrev main_call2_v0 : Ref sig .tc := ⟨.hbm, 56, rfl⟩
abbrev main_call2_c : Ref sig .tc := ⟨.hbm, 57, rfl⟩
abbrev main_call2_v1 : Ref sig .tc := ⟨.hbm, 58, rfl⟩
abbrev main_call2_c_0 : Ref sig .tc := ⟨.hbm, 59, rfl⟩
abbrev main_call2_v2 : Ref sig .tc := ⟨.hbm, 60, rfl⟩
abbrev main_call2_v3 : Ref sig .tc := ⟨.hbm, 61, rfl⟩
abbrev main_call2_v4 : Ref sig .tc := ⟨.hbm, 62, rfl⟩
abbrev main_call2_c_1 : Ref sig .tc := ⟨.hbm, 63, rfl⟩
abbrev main_call2_v5 : Ref sig .tc := ⟨.hbm, 64, rfl⟩
abbrev main_call2_v6 : Ref sig .tc := ⟨.hbm, 65, rfl⟩
abbrev main_call2_c_2 : Ref sig .tc := ⟨.hbm, 66, rfl⟩
abbrev main_call2_v7 : Ref sig .tc := ⟨.hbm, 67, rfl⟩
abbrev main_call2_v8 : Ref sig .tc := ⟨.hbm, 68, rfl⟩
abbrev main_call2_c_3 : Ref sig .tc := ⟨.hbm, 69, rfl⟩
abbrev main_call2_v9 : Ref sig .tc := ⟨.hbm, 70, rfl⟩
abbrev main_call2_v10 : Ref sig .tc := ⟨.hbm, 71, rfl⟩
abbrev main_call2_v11 : Ref sig .tc := ⟨.hbm, 72, rfl⟩
abbrev main_call2_v12 : Ref sig .tc := ⟨.hbm, 73, rfl⟩
abbrev main_call2_v13 : Ref sig .tc := ⟨.hbm, 74, rfl⟩
abbrev main_call2_v14 : Ref sig .tc := ⟨.hbm, 75, rfl⟩
abbrev main_v16 : Ref sig .tc := ⟨.hbm, 76, rfl⟩
abbrev main_c_2 : Ref sig .tc := ⟨.hbm, 77, rfl⟩
abbrev main_call3_v0 : Ref sig .tc := ⟨.hbm, 78, rfl⟩
abbrev main_call3_c : Ref sig .tc := ⟨.hbm, 79, rfl⟩
abbrev main_call3_v1 : Ref sig .tc := ⟨.hbm, 80, rfl⟩
abbrev main_call3_c_0 : Ref sig .tc := ⟨.hbm, 81, rfl⟩
abbrev main_call3_v2 : Ref sig .tc := ⟨.hbm, 82, rfl⟩
abbrev main_call3_v3 : Ref sig .tc := ⟨.hbm, 83, rfl⟩
abbrev main_call3_v4 : Ref sig .tc := ⟨.hbm, 84, rfl⟩
abbrev main_call3_c_1 : Ref sig .tc := ⟨.hbm, 85, rfl⟩
abbrev main_call3_v5 : Ref sig .tc := ⟨.hbm, 86, rfl⟩
abbrev main_call3_v6 : Ref sig .tc := ⟨.hbm, 87, rfl⟩
abbrev main_call3_c_2 : Ref sig .tc := ⟨.hbm, 88, rfl⟩
abbrev main_call3_v7 : Ref sig .tc := ⟨.hbm, 89, rfl⟩
abbrev main_call3_v8 : Ref sig .tc := ⟨.hbm, 90, rfl⟩
abbrev main_call3_c_3 : Ref sig .tc := ⟨.hbm, 91, rfl⟩
abbrev main_call3_v9 : Ref sig .tc := ⟨.hbm, 92, rfl⟩
abbrev main_call3_v10 : Ref sig .tc := ⟨.hbm, 93, rfl⟩
abbrev main_call3_v11 : Ref sig .tc := ⟨.hbm, 94, rfl⟩
abbrev main_call3_v12 : Ref sig .tc := ⟨.hbm, 95, rfl⟩
abbrev main_call3_v13 : Ref sig .tc := ⟨.hbm, 96, rfl⟩
abbrev main_call3_v14 : Ref sig .tc := ⟨.hbm, 97, rfl⟩
abbrev main_v17 : Ref sig .tc := ⟨.hbm, 98, rfl⟩
abbrev main_v18 : Ref sig .tc := ⟨.hbm, 99, rfl⟩
abbrev main_v19 : Ref sig .tc := ⟨.hbm, 100, rfl⟩
abbrev main_v20 : Ref sig .tc := ⟨.hbm, 101, rfl⟩
abbrev main_v21 : Ref sig .tc := ⟨.hbm, 102, rfl⟩
abbrev main_v22 : Ref sig .tc := ⟨.hbm, 103, rfl⟩
abbrev main_cst : Ref sig .tc := ⟨.hbm, 104, rfl⟩
abbrev main_v23 : Ref sig .tc := ⟨.hbm, 105, rfl⟩
abbrev main_v24 : Ref sig .tc := ⟨.hbm, 106, rfl⟩
abbrev main_v25 : Ref sig .tc := ⟨.hbm, 107, rfl⟩
abbrev main_cst_3 : Ref sig .tc := ⟨.hbm, 108, rfl⟩
abbrev main_call4_v0 : Ref sig .tc := ⟨.hbm, 109, rfl⟩
abbrev main_call4_v1 : Ref sig .tc := ⟨.hbm, 110, rfl⟩
abbrev main_call4_v2 : Ref sig .tc := ⟨.hbm, 111, rfl⟩
abbrev main_v26 : Ref sig .tc := ⟨.hbm, 112, rfl⟩
abbrev main_cst_4 : Ref sig .tc := ⟨.hbm, 113, rfl⟩
abbrev main_v27 : Ref sig .tc := ⟨.hbm, 114, rfl⟩
abbrev main_v28 : Ref sig .tc := ⟨.hbm, 115, rfl⟩
abbrev main_v29 : Ref sig .tc := ⟨.hbm, 116, rfl⟩
abbrev main_v30 : Ref sig .tc := ⟨.hbm, 117, rfl⟩
abbrev main_v31 : Ref sig .tc := ⟨.hbm, 118, rfl⟩
abbrev main_c_5 : Ref sig .tc := ⟨.hbm, 119, rfl⟩
abbrev main_v32 : Ref sig .tc := ⟨.hbm, 120, rfl⟩
abbrev main_v33 : Ref sig .tc := ⟨.hbm, 121, rfl⟩
abbrev main_cst_6 : Ref sig .tc := ⟨.hbm, 122, rfl⟩
abbrev main_v34 : Ref sig .tc := ⟨.hbm, 123, rfl⟩
abbrev main_v35 : Ref sig .tc := ⟨.hbm, 124, rfl⟩
abbrev main_cst_7 : Ref sig .tc := ⟨.hbm, 125, rfl⟩
abbrev main_call5_v0 : Ref sig .tc := ⟨.hbm, 126, rfl⟩
abbrev main_call5_v1 : Ref sig .tc := ⟨.hbm, 127, rfl⟩
abbrev main_call5_v2 : Ref sig .tc := ⟨.hbm, 128, rfl⟩
abbrev main_v36 : Ref sig .tc := ⟨.hbm, 129, rfl⟩
abbrev main_v37 : Ref sig .tc := ⟨.hbm, 130, rfl⟩
abbrev main_v38 : Ref sig .tc := ⟨.hbm, 131, rfl⟩
abbrev main_v39 : Ref sig .tc := ⟨.hbm, 132, rfl⟩
abbrev main_cst_8 : Ref sig .tc := ⟨.hbm, 133, rfl⟩
abbrev main_call6_v0 : Ref sig .tc := ⟨.hbm, 134, rfl⟩
abbrev main_call6_v1 : Ref sig .tc := ⟨.hbm, 135, rfl⟩
abbrev main_call6_v2 : Ref sig .tc := ⟨.hbm, 136, rfl⟩
abbrev main_v40 : Ref sig .tc := ⟨.hbm, 137, rfl⟩
abbrev main_v41 : Ref sig .tc := ⟨.hbm, 138, rfl⟩
abbrev main_v42 : Ref sig .tc := ⟨.hbm, 139, rfl⟩
abbrev main_v43 : Ref sig .tc := ⟨.hbm, 140, rfl⟩
abbrev main_v44 : Ref sig .tc := ⟨.hbm, 141, rfl⟩

abbrev nD : Nat := 1
abbrev τ : Topo := Topo.v7x

variable {F : FTy → Type} [FloatOps F]
-- ==== Proof.KernelIdealTalk.lean ====
/-
# The devices' protocol: its semaphore cells, what each unit paid to a cell carries, and the levels

Sixteen devices each hold a partial product of 512 rows. Every device owns one chunk of 32 rows. The kernel runs three rounds of talk:

* handshake: a device signals the barrier cell of each of the other fifteen and waits for fifteen units on its own. The unit device `p` pays to
  device `c` carries the two places `c` will write on `p`: slot `c` of `p`'s landing buffer and chunk `c` of `p`'s gather buffer;
* reduce-scatter: device `c` copies chunk `q` of its partial product to slot `c` of device `q`'s landing buffer;
* all-gather: device `c` copies its finished chunk to the same chunk of every other device's gather buffer.

The copies complete on four arrays of sixteen semaphores, numbered here by a family `f`: departures of the reduce-scatter (0), its landings (1),
departures of the all-gather (2), its landings (3). A departure array is indexed by the distance to the peer, a landing array by the sender.
Every cell has one round.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import Idealize.ShloMosaic.Lib.Rounds
public import Idealize.ShloMosaic.Lib.Rounds.Family
public import Idealize.ShloMosaic.Lib.Transfers
public import Idealize.ShloMosaic.Lib.Ring
public import Idealize.ShloMosaic.Lib.ViewIndex
public import Idealize.ShloMosaic.Lib.ValueIdxCore
public import Idealize.ShloMosaic.Lib.Pipeline.RegionTalk
public import Idealize.ShloMosaic.Lib.Tactic

@[expose] public section

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.ValueIdx

variable {F : FTy → Type} [FloatOps F] [Named F]

/-! ## The resource algebra -/

/-- The protocol's copy of the rounds library: its duties are named by devices. -/
abbrev UX : Type := URounds (GSem nD τ sig) (Fin 16)
abbrev UU : Type := UR sig nD τ × UX

local notation "𝕄" => MT nD τ sig Unit (Elt F) ℕ UU ℕ

abbrev EP : Emb (UR sig nD τ) (MT nD τ sig Unit (Elt F) ℕ UU ℕ) := embL
abbrev ER : Emb UX (MT nD τ sig Unit (Elt F) ℕ UU ℕ) := embR

/-! ## Peers -/

/-- The device at distance `r + 1` after `c`. -/
def peer (c : Fin 16) (r : Fin 15) : Fin 16 := ⟨(c.val + r.val + 1) % 16, Nat.mod_lt _ (by decide)⟩

theorem peer_ne (c : Fin 16) (r : Fin 15) : peer c r ≠ c := by revert c r; decide
theorem peer_inj (c : Fin 16) : Function.Injective (peer c) := by
  intro r r' h
  have := congrArg Fin.val h
  simp only [peer] at this
  apply Fin.ext; omega
/-- The fifteen distances reach every device but `c`. -/
theorem univ_peers (c : Fin 16) : (Finset.univ : Finset (Fin 15)).map ⟨peer c, peer_inj c⟩ = Finset.univ.erase c := by revert c; decide

/-- A family over the devices is its member at `c` beside the members at the fifteen distances. -/
theorem around (c : Fin 16) {M : Type} [URA M] (Φ : Fin 16 → sProp M) :
    bigSep Finset.univ Φ = iprop(Φ c ∗ bigSep Finset.univ fun r : Fin 15 => Φ (peer c r)) := by
  rw [bigSep_univ_at _ c, ← univ_peers c, bigSep_map]; rfl

theorem others (c : Fin 16) {M : Type} [URA M] (Φ : Fin 16 → sProp M) :
    bigSep (Finset.univ.erase c) Φ = bigSep Finset.univ fun r : Fin 15 => Φ (peer c r) := by
  rw [← univ_peers c, bigSep_map]; rfl

/-! ## Semaphores and cells -/

/-- The barrier semaphore. -/
abbrev barS : Sem sig := (SemArray.scalar (sig.barrier 0 rfl) : Sems sig S_).sem

/-- Semaphore `k` of family `f`. -/
def dsem (f : Fin 4) (k : Fin 16) : DmaSem sig := ⟨6 + (16 * f.val + k.val), by show _ < 70; omega⟩

theorem dsem_inj : Function.Injective (fun fk : Fin 4 × Fin 16 => dsem fk.1 fk.2) := by decide

abbrev barCell (c : Dev nD) : GSem nD τ sig := ((c : Thread nD τ), .reg barS)
abbrev dcell (c : Dev nD) (f : Fin 4) (k : Fin 16) : GSem nD τ sig := ((c : Thread nD τ), .dma (dsem f k))

theorem sem_at_5 (k : Fin 16) (h) : ((cc0_scratch5.slice (Rect.unit (s := S16) ![k.val] S1.size h)).squeeze S_ squeezes_S1_S_).sem = dsem 0 k := by
  revert h; revert k; decide
theorem sem_at_6 (k : Fin 16) (h) : ((cc0_scratch6.slice (Rect.unit (s := S16) ![k.val] S1.size h)).squeeze S_ squeezes_S1_S_).sem = dsem 1 k := by
  revert h; revert k; decide
theorem sem_at_7 (k : Fin 16) (h) : ((cc0_scratch7.slice (Rect.unit (s := S16) ![k.val] S1.size h)).squeeze S_ squeezes_S1_S_).sem = dsem 2 k := by
  revert h; revert k; decide
theorem sem_at_8 (k : Fin 16) (h) : ((cc0_scratch8.slice (Rect.unit (s := S16) ![k.val] S1.size h)).squeeze S_ squeezes_S1_S_).sem = dsem 3 k := by
  revert h; revert k; decide

/-! ## The places -/

theorem inb_comm (k : Fin 16) : ∀ a, (![k.val, 0, 0] : Fin 3 → ℕ) a + S1x32x512.size a ≤ S16x32x512.size a := by revert k; decide
theorem inb_rows (k : Fin 16) : ∀ a, (![32 * k.val, 0] : Fin 2 → ℕ) a + S32x512.size a ≤ S512x512.size a := by revert k; decide

/-- Slot `k` of the landing buffer. -/
abbrev commSlot (k : Fin 16) : Memref sig .tc .vmem S32x512 .bf16 :=
  ((Memref.whole cc0_scratch2 : Memref sig .tc .vmem S16x32x512 .bf16).slice (Rect.unit ![k.val, 0, 0] S1x32x512.size (inb_comm k)) (fun _ => rfl)).squeeze
    S32x512 squeezes_S1x32x512_S32x512
/-- Chunk `k` of the partial product rounded for sending. -/
abbrev partChunk (k : Fin 16) : Memref sig .tc .vmem S32x512 .bf16 :=
  (Memref.whole cc0_scratch1 : Memref sig .tc .vmem S512x512 .bf16).slice (Rect.unit ![32 * k.val, 0] S32x512.size (inb_rows k)) (fun _ => rfl)
/-- Chunk `k` of the gather buffer. -/
abbrev gathChunk (k : Fin 16) : Memref sig .tc .vmem S32x512 .bf16 :=
  (Memref.whole cc0_scratch3 : Memref sig .tc .vmem S512x512 .bf16).slice (Rect.unit ![32 * k.val, 0] S32x512.size (inb_rows k)) (fun _ => rfl)

abbrev PartBuf (F : FTy → Type) : Type := (cc0_scratch1 : Ref sig .tc).ty.Contents (Elt F)
abbrev CommBuf (F : FTy → Type) : Type := (cc0_scratch2 : Ref sig .tc).ty.Contents (Elt F)
abbrev GathBuf (F : FTy → Type) : Type := (cc0_scratch3 : Ref sig .tc).ty.Contents (Elt F)

/-- The elements of a place, as a set of the whole buffer's. -/
abbrev commSet (k : Fin 16) : Finset (cc0_scratch2 : Ref sig .tc).ty.Idx := (commSlot k).view.set
abbrev partSet (k : Fin 16) : Finset (cc0_scratch1 : Ref sig .tc).ty.Idx := (partChunk k).view.set
abbrev gathSet (k : Fin 16) : Finset (cc0_scratch3 : Ref sig .tc).ty.Idx := (gathChunk k).view.set

abbrev commPt (c : Dev nD) (k : Fin 16) (f : CommBuf F) : sProp 𝕄 := (commSlot k).view.loc (c : Thread nD τ) ↦[(commSlot k).view.set]{fullShare} f
abbrev partPt (c : Dev nD) (k : Fin 16) (f : PartBuf F) : sProp 𝕄 := (partChunk k).view.loc (c : Thread nD τ) ↦[(partChunk k).view.set]{fullShare} f
abbrev gathPt (c : Dev nD) (k : Fin 16) (q : PosShare TreeShare) (f : GathBuf F) : sProp 𝕄 :=
  (gathChunk k).view.loc (c : Thread nD τ) ↦[(gathChunk k).view.set]{q} f

/-- An element lies in slot `k` when its first coordinate is `k`, -/
theorem mem_commSet (k : Fin 16) (i : S16x32x512.Idx) : i ∈ commSet k ↔ (i 0).val = k.val := by
  have e : commSet k = (Rect.unit (s := S16x32x512) ![k.val, 0, 0] S1x32x512.size (inb_comm k)).set := by
    exact (Memref.set_view_squeeze _ _).trans (View.set_slice_whole _ _)
  rw [e, Rect.mem_set_unit]
  constructor
  · intro h
    have h0 : k.val ≤ (i 0).val ∧ (i 0).val < k.val + 1 := h 0
    omega
  · intro h a
    match a with
    | ⟨0, _⟩ => show k.val ≤ (i 0).val ∧ (i 0).val < k.val + 1; omega
    | ⟨1, _⟩ => exact ⟨Nat.zero_le _, by show (i 1).val < 0 + 32; have : (i 1).val < 32 := (i 1).isLt; omega⟩
    | ⟨2, _⟩ => exact ⟨Nat.zero_le _, by show (i 2).val < 0 + 512; have : (i 2).val < 512 := (i 2).isLt; omega⟩

/-- and in the rows of chunk `k` when its first coordinate divided by 32 is `k`. -/
theorem mem_rows (k : Fin 16) (i : S512x512.Idx) :
    i ∈ (Rect.unit (s := S512x512) ![32 * k.val, 0] S32x512.size (inb_rows k)).set ↔ (i 0).val / 32 = k.val := by
  rw [Rect.mem_set_unit]
  constructor
  · intro h
    have h0 : 32 * k.val ≤ (i 0).val ∧ (i 0).val < 32 * k.val + 32 := h 0
    omega
  · intro h a
    match a with
    | ⟨0, _⟩ => show 32 * k.val ≤ (i 0).val ∧ (i 0).val < 32 * k.val + 32; omega
    | ⟨1, _⟩ => exact ⟨Nat.zero_le _, by show (i 1).val < 0 + 512; have : (i 1).val < 512 := (i 1).isLt; omega⟩

theorem mem_partSet (k : Fin 16) (i : S512x512.Idx) : i ∈ partSet k ↔ (i 0).val / 32 = k.val := by
  rw [show partSet k = (Rect.unit (s := S512x512) ![32 * k.val, 0] S32x512.size (inb_rows k)).set from View.set_slice_whole _ _]
  exact mem_rows k i
theorem mem_gathSet (k : Fin 16) (i : S512x512.Idx) : i ∈ gathSet k ↔ (i 0).val / 32 = k.val := by
  rw [show gathSet k = (Rect.unit (s := S512x512) ![32 * k.val, 0] S32x512.size (inb_rows k)).set from View.set_slice_whole _ _]
  exact mem_rows k i

/-- Sets that read one number off an element are disjoint, and cover when every element's number is theirs. -/
theorem disjoint_of_label {α : Type} [DecidableEq α] (J : Fin 16 → Finset α) (lab : α → ℕ) (h : ∀ k i, i ∈ J k ↔ lab i = k.val) (k k' : Fin 16) (hk : k ≠ k') :
    Disjoint (J k) (J k') :=
  Finset.disjoint_left.mpr fun i hi hi' => hk (Fin.ext (((h k i).mp hi).symm.trans ((h k' i).mp hi')))
theorem cover_of_label {α : Type} [Fintype α] [DecidableEq α] (J : Fin 16 → Finset α) (lab : α → ℕ) (h : ∀ k i, i ∈ J k ↔ lab i = k.val) (hl : ∀ i, lab i < 16) :
    Finset.univ.biUnion J = Finset.univ := by
  ext i
  simp only [Finset.mem_biUnion, Finset.mem_univ, true_and, iff_true]
  exact ⟨⟨lab i, hl i⟩, (h _ i).mpr rfl⟩

/-- A landing buffer held whole is its sixteen slots; -/
theorem comm_slots (c : Dev nD) (f : CommBuf F) :
    ((c : Thread nD τ).loc cc0_scratch2 ↦{fullShare} f : sProp 𝕄) = bigSep Finset.univ fun k : Fin 16 => commPt c k f :=
  Ring.pointsTo_blocks (ℓ := (c : Thread nD τ).loc cc0_scratch2) (q := fullShare) commSet
    (disjoint_of_label commSet (fun i : S16x32x512.Idx => (i 0).val) mem_commSet)
    (cover_of_label commSet (fun i : S16x32x512.Idx => (i 0).val) mem_commSet (fun i => (i 0).isLt)) f
/-- the buffer sent from, its sixteen chunks; -/
theorem part_chunks (c : Dev nD) (f : PartBuf F) :
    ((c : Thread nD τ).loc cc0_scratch1 ↦{fullShare} f : sProp 𝕄) = bigSep Finset.univ fun k : Fin 16 => partPt c k f :=
  Ring.pointsTo_blocks (ℓ := (c : Thread nD τ).loc cc0_scratch1) (q := fullShare) partSet
    (disjoint_of_label partSet (fun i : S512x512.Idx => (i 0).val / 32) mem_partSet)
    (cover_of_label partSet (fun i : S512x512.Idx => (i 0).val / 32) mem_partSet (fun i => by have : (i 0).val < 512 := (i 0).isLt; omega)) f
/-- and the gather buffer likewise. -/
theorem gath_chunks (c : Dev nD) (f : GathBuf F) :
    ((c : Thread nD τ).loc cc0_scratch3 ↦{fullShare} f : sProp 𝕄) = bigSep Finset.univ fun k : Fin 16 => gathPt c k fullShare f :=
  Ring.pointsTo_blocks (ℓ := (c : Thread nD τ).loc cc0_scratch3) (q := fullShare) gathSet
    (disjoint_of_label gathSet (fun i : S512x512.Idx => (i 0).val / 32) mem_gathSet)
    (cover_of_label gathSet (fun i : S512x512.Idx => (i 0).val / 32) mem_gathSet (fun i => by have : (i 0).val < 512 := (i 0).isLt; omega)) f

/-! ## What lands where -/

/-- The row of chunk `k` at place `j`. -/
def rowAt (k : Fin 16) (j : Fin 32) : Fin 512 := ⟨32 * k.val + j.val, by omega⟩

/-- Every device's partial product, rounded for sending: one buffer per device. -/
abbrev Parts (F : FTy → Type) : Type := Dev nD → PartBuf F

/-- The landing buffer of device `c` when everything has landed: slot `s` holds chunk `c` of device `s`'s partial product, its own slot
    what the kernel stores there. -/
def landed (P : Parts F) (c : Dev nD) : CommBuf F := fun i : S16x32x512.Idx =>
  if (i 0).val = c.val then (k0_pay28 (F := F) : S1x32x512.Idx → Elt F .bf16) (ix3 (0 : Fin 1) (i 1) (i 2)) else P (i 0) (ix2 (rowAt c (i 1)) (i 2))

/-- The slot's element at a place. -/
theorem comm_emb (k : Fin 16) (x : S32x512.Idx) : (commSlot k).view.emb x = (ix3 k (x 0) (x 1) : S16x32x512.Idx) := by
  have e : (commSlot k).view.emb x
      = (Rect.unit (s := S16x32x512) ![k.val, 0, 0] S1x32x512.size (inb_comm k)).emb (Shape.reshapeEquiv squeezes_S1x32x512_S32x512.numel_eq x) := rfl
  rw [e, show Shape.reshapeEquiv squeezes_S1x32x512_S32x512.numel_eq x = (Fin.cons ⟨0, Nat.one_pos⟩ x : S1x32x512.Idx) from
    Shape.reshapeEquiv_cons_one (d := ![32, 512]) _ x]
  funext a
  apply Fin.ext
  match a with
  | ⟨0, _⟩ => show k.val + 1 * 0 = k.val; omega
  | ⟨1, _⟩ => show 0 + 1 * (x 0).val = (x 0).val; omega
  | ⟨2, _⟩ => show 0 + 1 * (x 1).val = (x 1).val; omega
theorem part_emb (k : Fin 16) (x : S32x512.Idx) : (partChunk k).view.emb x = (ix2 (rowAt k (x 0)) (x 1) : S512x512.Idx) := by
  funext a
  apply Fin.ext
  match a with
  | ⟨0, _⟩ => show 32 * k.val + 1 * (x 0).val = 32 * k.val + (x 0).val; omega
  | ⟨1, _⟩ => show 0 + 1 * (x 1).val = (x 1).val; omega
theorem gath_emb (k : Fin 16) (x : S32x512.Idx) : (gathChunk k).view.emb x = (ix2 (rowAt k (x 0)) (x 1) : S512x512.Idx) := part_emb k x

/-- A chunk sent by `c` to `q` lands in `q`'s slot `c` as `landed` says. -/
theorem landed_write (P : Parts F) (c q : Dev nD) (h : q ≠ c) (fd : CommBuf F) :
    ∀ i ∈ (commSlot c).view.set,
      (commSlot c).view.write (Elt F) fd ((partChunk q).view.read (Elt F) (P c)) Finset.univ i = landed P q i := by
  intro i hi
  obtain ⟨x, -, rfl⟩ := Finset.mem_map.mp hi
  refine (View.write_emb_of_mem _ _ (Finset.mem_univ x)).trans ?_
  rw [comm_emb]
  have e : landed P q (ix3 c (x 0) (x 1) : S16x32x512.Idx) = P c (ix2 (rowAt q (x 0)) (x 1)) := by
    unfold landed
    exact if_neg fun e => h (Fin.ext e.symm)
  rw [e, ← part_emb]; rfl

/-- A finished chunk sent by `c` lands in the same chunk of the peer's gather buffer unchanged. -/
theorem gath_write (c : Dev nD) (f fd : GathBuf F) :
    ∀ i ∈ (gathChunk c).view.set,
      (gathChunk c).view.write (Elt F) fd ((gathChunk c).view.read (Elt F) f) Finset.univ i = f i := by
  intro i hi
  obtain ⟨x, -, rfl⟩ := Finset.mem_map.mp hi
  exact (View.write_emb_of_mem _ _ (Finset.mem_univ x)).trans rfl

/-! ## The schedule -/

/-- What one copy credits its semaphores. -/
abbrev N : ℕ := (commSlot 0).view.dmaCredit
theorem N_pos : 0 < N := View.dmaCredit_pos _ (by decide)

variable (P : Parts F) (A : GathBuf F)

/-- Paid to device `c`'s barrier cell by device `p`: the two places on `p` that `c` will write, and that `p`'s cells for them are open. -/
def barPay (c p : Dev nD) : sProp 𝕄 :=
  iprop((∃ f, commPt p c f) ∗ (∃ f, gathPt p c fullShare f) ∗ reached ER (dcell p 1 c) 0 ∗ reached ER (dcell p 3 c) 0)

/-- What completes with the one copy on semaphore `k` of family `f` of device `c`: the buffer sent from back, or the place written, at
    the contents named. -/
def copyPay (c : Dev nD) (f : Fin 4) (k : Fin 16) : sProp 𝕄 :=
  match f with
  | 0 => partPt c ⟨(c.val + k.val) % 16, Nat.mod_lt _ (by decide)⟩ (P c)
  | 1 => commPt c k (landed P c)
  | 2 => gathPt c c (shareTokN fullShare (k.val - 1)) A
  | 3 => gathPt c k fullShare A

/-- The semaphore of a family that no copy uses: distance zero, or the device itself as sender. -/
def idle (c : Dev nD) (f : Fin 4) : Fin 16 := if f.val % 2 = 0 then 0 else c

/-- The family and the index of a semaphore. -/
def famOf (s : DmaSem sig) : Fin 4 := ⟨(s.val - 6) / 16 % 4, Nat.mod_lt _ (by decide)⟩
def indexOf (s : DmaSem sig) : Fin 16 := ⟨(s.val - 6) % 16, Nat.mod_lt _ (by decide)⟩

theorem famOf_dsem (f : Fin 4) (k : Fin 16) : famOf (dsem f k) = f := by revert f k; decide
theorem indexOf_dsem (f : Fin 4) (k : Fin 16) : indexOf (dsem f k) = k := by revert f k; decide
theorem six_le_dsem (f : Fin 4) (k : Fin 16) : 6 ≤ (dsem f k).val := by show 6 ≤ 6 + _; omega

/-- The duties of round 0 at a semaphore of device `c`: one per other device on the barrier, one on each semaphore a copy uses. -/
def dutiesAt (c : Dev nD) : SemLoc sig → Finset (Fin 16)
  | .reg _ => Finset.univ.erase c
  | .dma s => if 6 ≤ s.val ∧ indexOf s ≠ idle c (famOf s) then {0} else ∅

def amountAt : SemLoc sig → ℕ
  | .reg _ => 1
  | .dma _ => N

def payAt (c : Dev nD) (d : Fin 16) : SemLoc sig → sProp 𝕄
  | .reg _ => barPay c d
  | .dma s => copyPay P A c (famOf s) (indexOf s)

def rd : Rounds.Schedule (GSem nD τ sig) (Fin 16) 𝕄 where
  duties g r := if r = 0 ∧ g.1.2 = .tc then dutiesAt g.1.1 g.2 else ∅
  unitless _ := False
  amount g _ _ := amountAt g.2
  payload g _ d := payAt P A g.1.1 d g.2
  amount_pos g _ _ _ := by
    unfold amountAt
    split
    · exact Nat.one_pos
    · exact N_pos

instance payAt_storable (c : Dev nD) (d : Fin 16) (s : SemLoc sig) : BI.Storable (upEmb : UEmb _ 𝕄) (payAt P A c d s) := by
  unfold payAt barPay copyPay
  (repeat' split) <;> infer_instance
instance rd_payload_storable (g : GSem nD τ sig) (r : ℕ) (d : Fin 16) : BI.Storable (upEmb : UEmb _ 𝕄) ((rd P A).payload g r d) :=
  payAt_storable P A g.1.1 d g.2

section Sched
variable (c : Dev nD)

theorem duties_bar : (rd P A).duties (barCell c) 0 = Finset.univ.erase c := by dsimp only [rd]; exact if_pos ⟨rfl, rfl⟩
theorem duties_dma (f : Fin 4) (k : Fin 16) (h : k ≠ idle c f) : (rd P A).duties (dcell c f k) 0 = {0} := by
  dsimp only [rd]; rw [if_pos ⟨rfl, rfl⟩]; unfold dutiesAt
  exact if_pos ⟨six_le_dsem f k, by rw [indexOf_dsem, famOf_dsem]; exact h⟩
theorem duties_idle (f : Fin 4) (r : ℕ) : (rd P A).duties (dcell c f (idle c f)) r = ∅ := by
  dsimp only [rd]
  split
  · unfold dutiesAt; exact if_neg fun h => h.2 (by rw [indexOf_dsem, famOf_dsem])
  · rfl
theorem duties_later (g : GSem nD τ sig) : ∀ r, 1 ≤ r → (rd P A).duties g r = ∅ :=
  fun r hr => by dsimp only [rd]; exact if_neg fun h => by omega

theorem amount_bar (d : Fin 16) : (rd P A).amount (barCell c) 0 d = 1 := rfl
theorem amount_dma (f : Fin 4) (k d : Fin 16) : (rd P A).amount (dcell c f k) 0 d = N := rfl

theorem expect_bar : (rd P A).expect (barCell c) 0 = 15 := by
  unfold Schedule.expect Schedule.amountOf
  rw [duties_bar, Finset.sum_congr rfl fun d _ => amount_bar P A c d, Finset.sum_const, Finset.card_erase_of_mem (Finset.mem_univ _)]; rfl
theorem expect_dma (f : Fin 4) (k : Fin 16) (h : k ≠ idle c f) : (rd P A).expect (dcell c f k) 0 = N := by
  unfold Schedule.expect Schedule.amountOf; rw [duties_dma P A c f k h, Finset.sum_singleton, amount_dma]

theorem payload_bar (d : Fin 16) : (rd P A).payload (barCell c) 0 d = barPay c d := rfl
theorem payload_dma (f : Fin 4) (k d : Fin 16) : (rd P A).payload (dcell c f k) 0 d = copyPay P A c f k := by
  show copyPay P A c (famOf (dsem f k)) (indexOf (dsem f k)) = _
  rw [famOf_dsem, indexOf_dsem]

theorem rest_bar : bigSep ((rd P A).duties (barCell c) 0 \ ∅) (fun d => (rd P A).payload (barCell c) 0 d) = bigSep Finset.univ fun r : Fin 15 => barPay (F := F) c (peer c r) := by
  rw [Finset.sdiff_empty, duties_bar]; exact others c _
theorem rest_dma (f : Fin 4) (k : Fin 16) (h : k ≠ idle c f) :
    bigSep ((rd P A).duties (dcell c f k) 0 \ ∅) (fun d => (rd P A).payload (dcell c f k) 0 d) = copyPay P A c f k := by
  rw [Finset.sdiff_empty, duties_dma P A c f k h, bigSep_singleton, payload_dma]

end Sched

end Cert.KernelIdealProof

end
-- ==== Proof.KernelIdealSteps.lean ====
/-
# What a device owes, its states between steps, and the protocol's steps

Each phase of the kernel handles the fifteen peers in turn. Its state after `n` of them is the resources of the peers still to come beside
those of the peers done; a step moves one peer across. The steps are stated for any program text whose devices, places and semaphores are the
peer's, so that each printed line is one application.
-/
module

public import proofs.«01_k».proof.Proof.KernelIdealTalk

@[expose] public section

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.ValueIdx

variable {F : FTy → Type} [FloatOps F] [Named F]

local notation "𝕄" => MT nD τ sig Unit (Elt F) ℕ UU ℕ

/-! ## Fifteen in turn -/

/-- The peers from the `n`-th on, and those before it. -/
abbrev from_ (n : ℕ) : Finset (Fin 15) := Finset.univ.filter fun r => n ≤ r.val
abbrev upto (n : ℕ) : Finset (Fin 15) := Finset.univ.filter fun r => r.val < n

theorem from_step (r : Fin 15) : from_ r.val = insert r (from_ (r.val + 1)) := by revert r; decide
theorem from_not_mem (r : Fin 15) : r ∉ from_ (r.val + 1) := by simp
theorem upto_step (r : Fin 15) : upto (r.val + 1) = insert r (upto r.val) := by revert r; decide
theorem upto_not_mem (r : Fin 15) : r ∉ upto r.val := by simp
theorem from_zero : from_ 0 = Finset.univ := by decide
theorem from_end : from_ 15 = ∅ := by decide
theorem upto_zero : upto 0 = ∅ := by decide
theorem upto_end : upto 15 = Finset.univ := by decide

theorem todo_step (r : Fin 15) (Φ : Fin 15 → sProp 𝕄) : bigSep (from_ r.val) Φ = iprop(Φ r ∗ bigSep (from_ (r.val + 1)) Φ) := by
  rw [from_step, bigSep_insert (from_not_mem r)]; rfl
theorem done_step (r : Fin 15) (Φ : Fin 15 → sProp 𝕄) : bigSep (upto (r.val + 1)) Φ = iprop(Φ r ∗ bigSep (upto r.val) Φ) := by
  rw [upto_step, bigSep_insert (upto_not_mem r)]; rfl

/-- One member of a family held. -/
theorem pick {I : Type} [Fintype I] [DecidableEq I] (Φ : I → sProp 𝕄) (i : I) : bigSep Finset.univ Φ ⊢ Φ i := bigSep_elim (Finset.mem_univ i)

/-! ## What a device owes -/

abbrev Tallies := CellTallies nD τ sig Unit

/-- Owed to the peers from the `n`-th on. -/
def dueFrom (g : Fin 15 → Tallies) (n : ℕ) : Tallies := ∑ r ∈ from_ n, g r
theorem dueFrom_step (g : Fin 15 → Tallies) (r : Fin 15) : dueFrom g r.val = dueFrom g (r.val + 1) + g r := by
  unfold dueFrom; rw [from_step, Finset.sum_insert (from_not_mem r), add_comm]
theorem dueFrom_end (g : Fin 15 → Tallies) : dueFrom g 15 = 0 := by unfold dueFrom; rw [from_end, Finset.sum_empty]

abbrev barDue (c : Dev nD) (r : Fin 15) : Tallies := tallyAt (barCell (peer c r)) () 1
abbrev landDue (f : Fin 4) (c : Dev nD) (r : Fin 15) : Tallies := tallyAt (dcell (peer c r) f c) () N

/-- Owed by device `c` after `a` signals, `b` copies of the reduce-scatter and `d` of the all-gather. -/
def owed (c : Dev nD) (a b d : ℕ) : Tallies := dueFrom (barDue c) a + dueFrom (landDue 1 c) b + dueFrom (landDue 3 c) d

theorem regroup (a b d x : Tallies) : (a + x) + b + d = a + b + d + x := by rw [add_right_comm a x b, add_right_comm (a + b) x d]
theorem regroup' (a b d x : Tallies) : a + (b + x) + d = a + b + d + x := by rw [← add_assoc a b x, add_right_comm (a + b) x d]

theorem owed_bar_step (c : Dev nD) (r : Fin 15) (b d : ℕ) : owed c r.val b d = owed c (r.val + 1) b d + barDue c r := by
  unfold owed; rw [dueFrom_step]; exact regroup _ _ _ _
theorem owed_rs_step (c : Dev nD) (r : Fin 15) (a d : ℕ) : owed c a r.val d = owed c a (r.val + 1) d + landDue 1 c r := by
  unfold owed; rw [dueFrom_step]; exact regroup' _ _ _ _
theorem owed_ag_step (c : Dev nD) (r : Fin 15) (a b : ℕ) : owed c a b r.val = owed c a b (r.val + 1) + landDue 3 c r := by
  unfold owed; rw [dueFrom_step, ← add_assoc]
theorem owed_end (c : Dev nD) : owed c 15 15 15 = 0 := by
  unfold owed; simp only [dueFrom_end, add_zero]

/-- All that device `c` owes at launch. -/
def O₀ (c : Dev nD) : Tallies := owed c 0 0 0

/-! ## Levels -/

def L (g : GSem nD τ sig) : Finset Unit := if g.1.2 = .tc then {()} else ∅
theorem L_of_ne (g : GSem nD τ sig) (h : g.1.2 ≠ .tc) : L g = ∅ := if_neg h
theorem L_tc (c : Dev nD) (sm : SemLoc sig) : L ((c : Thread nD τ), sm) = {()} := if_pos rfl

/-- The barrier at 1, landings of the reduce-scatter at 2, landings of the all-gather at 3, all others at 0. -/
def levelOf : SemLoc sig → ℕ
  | .reg _ => 1
  | .dma s => if 6 ≤ s.val then (if famOf s = 1 then 2 else if famOf s = 3 then 3 else 0) else 0
def lv (g : GSem nD τ sig) (_ : Unit) : ℕ := levelOf g.2

theorem level_bar (c : Dev nD) : lv (barCell c) () = 1 := rfl
theorem level_dma (c : Dev nD) (f : Fin 4) (k : Fin 16) : lv (dcell c f k) () = if f = 1 then 2 else if f = 3 then 3 else 0 := by
  show levelOf (.dma (dsem f k)) = _
  unfold levelOf; dsimp only; rw [if_pos (six_le_dsem f k), famOf_dsem]

theorem dueFrom_pos {g : Fin 15 → Tallies} {n : ℕ} {x : GSem nD τ sig} {u : Unit} (h : 0 < dueFrom g n x u) : ∃ r, n ≤ r.val ∧ 0 < g r x u := by
  unfold dueFrom at h
  rw [Finset.sum_apply, Finsupp.finset_sum_apply] at h
  obtain ⟨r, hr, hp⟩ := Finset.exists_ne_zero_of_sum_ne_zero h.ne'
  exact ⟨r, (Finset.mem_filter.mp hr).2, Nat.pos_of_ne_zero hp⟩

theorem tally_pos {g : GSem nD τ sig} {k : ℕ} {x : GSem nD τ sig} {u : Unit} (h : 0 < (tallyAt g () k : Tallies) x u) : x = g := by
  rw [tallyAt_apply] at h
  by_contra hn
  rw [if_neg fun hh => hn hh.1] at h; exact absurd h (Nat.lt_irrefl 0)

theorem owed_pos {c : Dev nD} {a b d : ℕ} {x : GSem nD τ sig} {u : Unit} (h : 0 < owed c a b d x u) :
    (∃ r : Fin 15, a ≤ r.val ∧ x = barCell (peer c r)) ∨ (∃ r : Fin 15, b ≤ r.val ∧ x = dcell (peer c r) 1 c)
      ∨ ∃ r : Fin 15, d ≤ r.val ∧ x = dcell (peer c r) 3 c := by
  unfold owed at h
  rw [Pi.add_apply, Pi.add_apply, Finsupp.add_apply, Finsupp.add_apply] at h
  rcases Nat.add_pos_iff_pos_or_pos.mp h with h | h
  · rcases Nat.add_pos_iff_pos_or_pos.mp h with h | h
    · obtain ⟨r, hr, hp⟩ := dueFrom_pos h; exact .inl ⟨r, hr, tally_pos hp⟩
    · obtain ⟨r, hr, hp⟩ := dueFrom_pos h; exact .inr (.inl ⟨r, hr, tally_pos hp⟩)
  · obtain ⟨r, hr, hp⟩ := dueFrom_pos h; exact .inr (.inr ⟨r, hr, tally_pos hp⟩)

theorem mem_L_of_owed {c : Dev nD} {a b d : ℕ} {x : GSem nD τ sig} {u : Unit} (h : 0 < owed c a b d x u) : u ∈ L x := by
  rcases owed_pos h with ⟨r, -, rfl⟩ | ⟨r, -, rfl⟩ | ⟨r, -, rfl⟩ <;> (rw [L_tc]; exact Finset.mem_singleton_self _)

/-- A wait is allowed when everything still owed lies above its cell. -/
theorem mayWait_of (c : Dev nD) (s : SemLoc sig) (a b d n : ℕ) (hs : levelOf s ≤ n) (h : ∀ (x : GSem nD τ sig) (u : Unit), 0 < owed c a b d x u → n < lv x u) :
    (levAts L lv : sProp 𝕄) ⊢ MayWait (c : Thread nD τ) s () (owed c a b d) :=
  MayOwe.of_cut (L := L) (lev := lv) n (fun p hp => by rw [Finset.mem_singleton.mp hp, L_tc]; exact Finset.mem_singleton_self _)
    (fun g u hg => mem_L_of_owed hg) (fun p hp => by rw [Finset.mem_singleton.mp hp]; exact hs) h

theorem mayWait_bar (c : Dev nD) : (levAts L lv : sProp 𝕄) ⊢ MayWait (c : Thread nD τ) (.reg barS) () (owed c 15 0 0) :=
  mayWait_of c _ _ _ _ 1 (le_refl 1) fun x u h => by
    rcases owed_pos h with ⟨r, hr, rfl⟩ | ⟨r, -, rfl⟩ | ⟨r, -, rfl⟩
    · exact absurd r.isLt (by omega)
    · rw [level_dma]; decide
    · rw [level_dma]; decide
theorem mayWait_rs (c : Dev nD) (k : Fin 16) : (levAts L lv : sProp 𝕄) ⊢ MayWait (c : Thread nD τ) (.dma (dsem 1 k)) () (owed c 15 15 0) :=
  mayWait_of c _ _ _ _ 2 (by have := level_dma c 1 k; exact this.le) fun x u h => by
    rcases owed_pos h with ⟨r, hr, rfl⟩ | ⟨r, hr, rfl⟩ | ⟨r, -, rfl⟩
    · exact absurd r.isLt (by omega)
    · exact absurd r.isLt (by omega)
    · rw [level_dma]; decide
theorem mayWait_free (c : Dev nD) (s : SemLoc sig) : (levAts L lv : sProp 𝕄) ⊢ MayWait (c : Thread nD τ) s () (owed c 15 15 15) := by
  rw [owed_end, MayWait_zero]; exact Laws.affine

/-! ## The standing facts -/

variable (P : Parts F) (A : GathBuf F)

/-- The invariants of every cell, at the names the launch gave them, and that every barrier cell is open. -/
def known (K : GSem nD τ sig → ℕ) : sProp 𝕄 :=
  iprop(levAts L lv
    ∗ (bigSep Finset.univ fun p : Dev nD => iprop(cellInv ER (rd P A) (K (barCell p)) (barCell p) ∗ reached ER (barCell p) 0))
    ∗ bigSep Finset.univ fun pfk : Dev nD × Fin 4 × Fin 16 => cellInv ER (rd P A) (K (dcell pfk.1 pfk.2.1 pfk.2.2)) (dcell pfk.1 pfk.2.1 pfk.2.2))
/-- and that the device's own copy cells are open. -/
def ctx (K : GSem nD τ sig → ℕ) (c : Dev nD) : sProp 𝕄 :=
  iprop(known P A K ∗ bigSep Finset.univ fun fk : Fin 4 × Fin 16 => reached ER (dcell c fk.1 fk.2) 0)

instance known_persistent (K : GSem nD τ sig → ℕ) : BI.Persistent (known P A K) := by unfold known; infer_instance
instance ctx_persistent (K : GSem nD τ sig → ℕ) (c : Dev nD) : BI.Persistent (ctx P A K c) := by unfold ctx; infer_instance

variable (K : GSem nD τ sig → ℕ) (c : Dev nD)

theorem ctx_may (X : sProp 𝕄) (h : (levAts L lv : sProp 𝕄) ⊢ X) : ctx P A K c ⊢ X := by unfold ctx known; iintro ⟨⟨H, -⟩, -⟩; iapply h; iexact H
theorem ctx_bar (p : Dev nD) : ctx P A K c ⊢ iprop(cellInv ER (rd P A) (K (barCell p)) (barCell p) ∗ reached ER (barCell p) 0) := by
  unfold ctx known; iintro ⟨⟨-, H, -⟩, -⟩
  iapply (pick (fun p : Dev nD => iprop(cellInv ER (rd P A) (K (barCell p)) (barCell p) ∗ reached ER (barCell p) 0)) p); iexact H
theorem ctx_copy (p : Dev nD) (f : Fin 4) (k : Fin 16) : ctx P A K c ⊢ cellInv ER (rd P A) (K (dcell p f k)) (dcell p f k) := by
  unfold ctx known; iintro ⟨⟨-, -, H⟩, -⟩
  iapply (pick (fun pfk : Dev nD × Fin 4 × Fin 16 => cellInv ER (rd P A) (K (dcell pfk.1 pfk.2.1 pfk.2.2)) (dcell pfk.1 pfk.2.1 pfk.2.2)) (p, f, k)); iexact H
theorem ctx_open (f : Fin 4) (k : Fin 16) : ctx P A K c ⊢ reached ER (dcell c f k) 0 := by
  unfold ctx; iintro ⟨-, H⟩
  iapply (pick (fun fk : Fin 4 × Fin 16 => reached ER (dcell c fk.1 fk.2) 0) (f, k)); iexact H

/-! ## The states -/

abbrev 𝒱₀ : Variants := Variants.none

/-- A program of device `c`'s thread, run from what is held to a conclusion on what it returns. -/
abbrev Run {α : Type} (p : Prog (TpuEff nD τ sig (Elt F) Λ₀ .tc) α) (Q : α → sProp 𝕄) : sProp 𝕄 :=
  wp frame (wpE (defs₀ (F := F)) 𝒱₀ (c : Thread nD τ) none) Set.univ p Q

/-- The distance to the `r`-th peer, as an index. -/
abbrev dist (r : Fin 15) : Fin 16 := peer 0 r

/-- Signals: the two places handed to each peer and the unit's token. -/
def Sig (n : ℕ) : sProp 𝕄 :=
  iprop((bigSep (from_ n) fun r => iprop(dutyTok ER (barCell (peer c r)) 0 c ∗ (∃ f, commPt c (peer c r) f) ∗ ∃ f, gathPt c (peer c r) fullShare f))
    ∗ ∃ W, owes (c : Thread nD τ) (owed c n 0 0) W)

/-- Copies of the reduce-scatter: the chunk to send, the peer's slot for it, both tokens; afterwards the credit for the departure. -/
def RsSend (n : ℕ) : sProp 𝕄 :=
  iprop((bigSep (from_ n) fun r => iprop(partPt c (peer c r) (P c) ∗ (∃ f, commPt (peer c r) c f) ∗ reached ER (dcell (peer c r) 1 c) 0
      ∗ dutyTok ER (dcell c 0 (dist r)) 0 (0 : Fin 16) ∗ dutyTok ER (dcell (peer c r) 1 c) 0 (0 : Fin 16)))
    ∗ (bigSep (upto n) fun r => cred (tallyAt (dcell c 0 (dist r)) () N))
    ∗ ∃ W, owes (c : Thread nD τ) (owed c 15 n 0) W)

/-- Copies of the all-gather likewise, each from its own share of the finished chunk. -/
def AgSend (n : ℕ) : sProp 𝕄 :=
  iprop((bigSep (from_ n) fun r => iprop(gathPt c c (shareTokN fullShare r.val) A ∗ (∃ f, gathPt (peer c r) c fullShare f) ∗ reached ER (dcell (peer c r) 3 c) 0
      ∗ dutyTok ER (dcell c 2 (dist r)) 0 (0 : Fin 16) ∗ dutyTok ER (dcell (peer c r) 3 c) 0 (0 : Fin 16)))
    ∗ (bigSep (upto n) fun r => cred (tallyAt (dcell c 2 (dist r)) () N))
    ∗ ∃ W, owes (c : Thread nD τ) (owed c 15 15 n) W)

/-- Waits on the fifteen cells of a family: the credit and the position; afterwards what the cell pays and the position past its round. -/
def Waiting (f : Fin 4) (ix : Fin 15 → Fin 16) (d n : ℕ) : sProp 𝕄 :=
  iprop((bigSep (from_ n) fun r => iprop(cred (tallyAt (dcell c f (ix r)) () N) ∗ atPos ER (dcell c f (ix r)) 0 ∅ 0))
    ∗ (bigSep (upto n) fun r => iprop(copyPay P A c f (ix r) ∗ atPos ER (dcell c f (ix r)) 1 ∅ 0))
    ∗ ∃ W, owes (c : Thread nD τ) (owed c 15 15 d) W)

/-! ## The steps -/

section Steps

theorem peer_of (r : Fin 15) {q : Dev nD} (h : q.val = (c.val + r.val + 1) % 16) : q = peer c r := Fin.ext h

/-- A signal to a peer. -/
theorem sig_step {α : Type} {Q : α → sProp 𝕄} {R : sProp 𝕄} (r : Fin 15) {q : Dev nD} {j : Int} (hq : q.val = (c.val + r.val + 1) % 16) (hj : j = ((1 : ℕ) : Int))
    {k : PUnit → Prog (TpuEff nD τ sig (Elt F) Λ₀ .tc) α}
    (hk : iprop(ctx P A K c ∗ R ∗ Sig c (r.val + 1)) ⊢ Run c (k ⟨⟩) Q) :
    iprop(ctx P A K c ∗ R ∗ Sig c r.val) ⊢ Run c (.op (.semSignal (q, .tc) barS j) k) Q := by
  obtain rfl := peer_of c r hq
  subst hj
  unfold Sig
  rw [todo_step]
  iintro ⟨#HC, HR, ⟨⟨Ht, Hcm, Hga⟩, Htodo⟩, %W, HO⟩
  ihave ⟨#HI, #Hr⟩ := (ctx_bar P A K c (peer c r)) $$ HC
  iapply (Rounds.wp_signal 𝒱₀ ER (rd P A) (c : Thread nD τ) none (dst := (peer c r : Thread nD τ)) (sem := barS) (r := 0) (d := c) (κ := K (barCell (peer c r)))
      (by rw [duties_bar]; exact Finset.mem_erase.mpr ⟨(peer_ne c r).symm, Finset.mem_univ _⟩) (amount_bar P A (peer c r) c) ()
      (owed c (r.val + 1) 0 0) (owed_bar_step c r 0 0)) $$ [HO Ht Hcm Hga]
  · isplitr; · iexact HI
    isplitl [HO]; · iexact HO
    isplitl [Ht]; · iexact Ht
    isplitl
    · rw [payload_bar]; unfold barPay
      isplitl [Hcm]; · iexact Hcm
      isplitl [Hga]; · iexact Hga
      isplitr
      · iapply (ctx_open P A K c 1 (peer c r)); iexact HC
      · iapply (ctx_open P A K c 3 (peer c r)); iexact HC
    · iexact Hr
  iintro HO
  iapply hk
  isplitr; · iexact HC
  isplitl [HR]; · iexact HR
  unfold Sig
  isplitl [Htodo]; · iexact Htodo
  iexists _; iexact HO

/-- The places and semaphores of the printed lines. -/
theorem partChunk_of (k : Fin 16) {o : Fin 2 → ℕ} {i} (h : o = ![32 * k.val, 0]) :
    (Memref.whole cc0_scratch1 : Memref sig .tc .vmem S512x512 .bf16).slice (Rect.unit o S32x512.size i) (fun _ => rfl) = partChunk k := by subst h; rfl
theorem gathChunk_of (k : Fin 16) {o : Fin 2 → ℕ} {i} (h : o = ![32 * k.val, 0]) :
    (Memref.whole cc0_scratch3 : Memref sig .tc .vmem S512x512 .bf16).slice (Rect.unit o S32x512.size i) (fun _ => rfl) = gathChunk k := by subst h; rfl
theorem commSlot_of (k : Fin 16) {o : Fin 3 → ℕ} {i} (h : o = ![k.val, 0, 0]) :
    ((Memref.whole cc0_scratch2 : Memref sig .tc .vmem S16x32x512 .bf16).slice (Rect.unit o S1x32x512.size i) (fun _ => rfl)).squeeze
      S32x512 squeezes_S1x32x512_S32x512 = commSlot k := by subst h; rfl
theorem sem_of_5 (k : Fin 16) {o : Fin 1 → ℕ} {i} (h : o = ![k.val]) : ((cc0_scratch5.slice (Rect.unit (s := S16) o S1.size i)).squeeze S_ squeezes_S1_S_).sem = dsem 0 k := by
  subst h; exact sem_at_5 k _
theorem sem_of_6 (k : Fin 16) {o : Fin 1 → ℕ} {i} (h : o = ![k.val]) : ((cc0_scratch6.slice (Rect.unit (s := S16) o S1.size i)).squeeze S_ squeezes_S1_S_).sem = dsem 1 k := by
  subst h; exact sem_at_6 k _
theorem sem_of_7 (k : Fin 16) {o : Fin 1 → ℕ} {i} (h : o = ![k.val]) : ((cc0_scratch7.slice (Rect.unit (s := S16) o S1.size i)).squeeze S_ squeezes_S1_S_).sem = dsem 2 k := by
  subst h; exact sem_at_7 k _
theorem sem_of_8 (k : Fin 16) {o : Fin 1 → ℕ} {i} (h : o = ![k.val]) : ((cc0_scratch8.slice (Rect.unit (s := S16) o S1.size i)).squeeze S_ squeezes_S1_S_).sem = dsem 3 k := by
  subst h; exact sem_at_8 k _

theorem dist_ne (r : Fin 15) : dist r ≠ idle c 0 := peer_ne 0 r
theorem dist_ne' (r : Fin 15) : dist r ≠ idle c 2 := peer_ne 0 r
theorem self_ne (r : Fin 15) : c ≠ idle (peer c r) 1 := (peer_ne c r).symm
theorem self_ne' (r : Fin 15) : c ≠ idle (peer c r) 3 := (peer_ne c r).symm

theorem copyPay_part (r : Fin 15) : copyPay P A c 0 (dist r) = partPt c (peer c r) (P c) := by
  have e : (⟨(c.val + (dist r).val) % 16, Nat.mod_lt _ (by decide)⟩ : Fin 16) = peer c r := by revert c r; decide
  show partPt c _ (P c) = _
  rw [e]
theorem copyPay_share (r : Fin 15) : copyPay P A c 2 (dist r) = gathPt c c (shareTokN fullShare r.val) A := by
  have e : (dist r).val - 1 = r.val := by revert r; decide
  show gathPt c c (shareTokN fullShare ((dist r).val - 1)) A = _
  rw [e]

/-- A copy of the reduce-scatter. -/
theorem rs_step {α : Type} {Q : α → sProp 𝕄} {R : sProp 𝕄} (r : Fin 15) {q : Dev nD} {src dst : Memref sig .tc .vmem S32x512 .bf16} {s₁ s₂ : DmaSem sig}
    (hq : q.val = (c.val + r.val + 1) % 16) (hsrc : src = partChunk (peer c r)) (hdst : dst = commSlot c) (h₁ : s₁ = dsem 0 (dist r)) (h₂ : s₂ = dsem 1 c)
    {hsc hw hw' ht} {k : PUnit → Prog (TpuEff nD τ sig (Elt F) Λ₀ .tc) α}
    (hk : iprop(ctx P A K c ∗ R ∗ RsSend P c (r.val + 1)) ⊢ Run c (k ⟨⟩) Q) :
    iprop(ctx P A K c ∗ R ∗ RsSend P c r.val) ⊢ Run c (.op (.enqueueDma src (.remote (Dev.tc q) dst (.dma s₁) hsc) (.dma s₂) hw hw' ht) k) Q := by
  obtain rfl := peer_of c r hq
  subst hsrc hdst h₁ h₂
  unfold RsSend
  rw [todo_step]
  iintro ⟨#HC, HR, ⟨⟨Hsrc, ⟨%fd, Hdst⟩, #Hr, Ht₁, Ht₂⟩, Htodo⟩, Hdone, %W, HO⟩
  iapply (Rounds.wp_send_pointsTo 𝒱₀ ER (rd P A) (c : Thread nD τ) none (c' := (peer c r : Thread nD τ)) (src := partChunk (peer c r)) (dst := commSlot c)
      (sS := .dma (dsem 0 (dist r))) (sem := .dma (dsem 1 c)) (q := fullShare) (fs := P c) (fd := fd)
      (κ₁ := K (dcell c 0 (dist r))) (κ₂ := K (dcell (peer c r) 1 c)) (r₁ := 0) (r₂ := 0) (d₁ := 0) (d₂ := 0)
      (by rw [duties_dma _ _ _ _ _ (dist_ne c r)]; exact Finset.mem_singleton_self _) (by rw [duties_dma _ _ _ _ _ (self_ne c r)]; exact Finset.mem_singleton_self _)
      () () N rfl (amount_dma P A c 0 (dist r) 0) (amount_dma P A (peer c r) 1 c 0) (owed c 15 (r.val + 1) 0) (owed_rs_step c r 15 0)
      (by rw [payload_dma, copyPay_part])
      (by rw [payload_dma]; exact Entails.of_eq (pointsTo_congr (landed_write P c (peer c r) (peer_ne c r) fd)))) $$ [Hsrc Hdst HO Ht₁ Ht₂]
  · isplitr; · iapply (ctx_copy P A K c c 0 (dist r)); iexact HC
    isplitr; · iapply (ctx_copy P A K c (peer c r) 1 c); iexact HC
    isplitl [Hsrc]; · iexact Hsrc
    isplitl [Hdst]; · iexact Hdst
    isplitl [HO]; · iexact HO
    isplitl [Ht₁]; · iexact Ht₁
    isplitr; · iapply (ctx_open P A K c 0 (dist r)); iexact HC
    isplitl [Ht₂]; · iexact Ht₂
    iexact Hr
  iintro ⟨Hc, HO⟩
  iapply hk
  isplitr; · iexact HC
  isplitl [HR]; · iexact HR
  unfold RsSend
  rw [done_step]
  isplitl [Htodo]; · iexact Htodo
  isplitl [Hc Hdone]
  · isplitl [Hc]; · iexact Hc
    iexact Hdone
  iexists _; iexact HO

/-- A copy of the all-gather. -/
theorem ag_step {α : Type} {Q : α → sProp 𝕄} {R : sProp 𝕄} (r : Fin 15) {q : Dev nD} {src dst : Memref sig .tc .vmem S32x512 .bf16} {s₁ s₂ : DmaSem sig}
    (hq : q.val = (c.val + r.val + 1) % 16) (hsrc : src = gathChunk c) (hdst : dst = gathChunk c) (h₁ : s₁ = dsem 2 (dist r)) (h₂ : s₂ = dsem 3 c)
    {hsc hw hw' ht} {k : PUnit → Prog (TpuEff nD τ sig (Elt F) Λ₀ .tc) α}
    (hk : iprop(ctx P A K c ∗ R ∗ AgSend A c (r.val + 1)) ⊢ Run c (k ⟨⟩) Q) :
    iprop(ctx P A K c ∗ R ∗ AgSend A c r.val) ⊢ Run c (.op (.enqueueDma src (.remote (Dev.tc q) dst (.dma s₁) hsc) (.dma s₂) hw hw' ht) k) Q := by
  obtain rfl := peer_of c r hq
  subst hsrc hdst h₁ h₂
  unfold AgSend
  rw [todo_step]
  iintro ⟨#HC, HR, ⟨⟨Hsrc, ⟨%fd, Hdst⟩, #Hr, Ht₁, Ht₂⟩, Htodo⟩, Hdone, %W, HO⟩
  iapply (Rounds.wp_send_pointsTo 𝒱₀ ER (rd P A) (c : Thread nD τ) none (c' := (peer c r : Thread nD τ)) (src := gathChunk c) (dst := gathChunk c)
      (sS := .dma (dsem 2 (dist r))) (sem := .dma (dsem 3 c)) (q := shareTokN fullShare r.val) (fs := A) (fd := fd)
      (κ₁ := K (dcell c 2 (dist r))) (κ₂ := K (dcell (peer c r) 3 c)) (r₁ := 0) (r₂ := 0) (d₁ := 0) (d₂ := 0)
      (by rw [duties_dma _ _ _ _ _ (dist_ne' c r)]; exact Finset.mem_singleton_self _) (by rw [duties_dma _ _ _ _ _ (self_ne' c r)]; exact Finset.mem_singleton_self _)
      () () N rfl (amount_dma P A c 2 (dist r) 0) (amount_dma P A (peer c r) 3 c 0) (owed c 15 15 (r.val + 1)) (owed_ag_step c r 15 15)
      (by rw [payload_dma, copyPay_share])
      (by rw [payload_dma]; exact Entails.of_eq (pointsTo_congr (gath_write c A fd)))) $$ [Hsrc Hdst HO Ht₁ Ht₂]
  · isplitr; · iapply (ctx_copy P A K c c 2 (dist r)); iexact HC
    isplitr; · iapply (ctx_copy P A K c (peer c r) 3 c); iexact HC
    isplitl [Hsrc]; · iexact Hsrc
    isplitl [Hdst]; · iexact Hdst
    isplitl [HO]; · iexact HO
    isplitl [Ht₁]; · iexact Ht₁
    isplitr; · iapply (ctx_open P A K c 2 (dist r)); iexact HC
    isplitl [Ht₂]; · iexact Ht₂
    iexact Hr
  iintro ⟨Hc, HO⟩
  iapply hk
  isplitr; · iexact HC
  isplitl [HR]; · iexact HR
  unfold AgSend
  rw [done_step]
  isplitl [Htodo]; · iexact Htodo
  isplitl [Hc Hdone]
  · isplitl [Hc]; · iexact Hc
    iexact Hdone
  iexists _; iexact HO

/-- A wait for one copy. -/
theorem wait_step {α : Type} {Q : α → sProp 𝕄} {R : sProp 𝕄} (f : Fin 4) (ix : Fin 15 → Fin 16) (d : ℕ) (hix : ∀ r, ix r ≠ idle c f)
    (hmay : ∀ k, (levAts L lv : sProp 𝕄) ⊢ MayWait (c : Thread nD τ) (.dma (dsem f k)) () (owed c 15 15 d))
    (r : Fin 15) {s : DmaSem sig} {src dst : Memref sig .tc .vmem S32x512 .bf16} (hs : s = dsem f (ix r)) (hN : dst.view.dmaCredit = N)
    {hw hw'} {k : PUnit → Prog (TpuEff nD τ sig (Elt F) Λ₀ .tc) α}
    (hk : iprop(ctx P A K c ∗ R ∗ Waiting P A c f ix d (r.val + 1)) ⊢ Run c (k ⟨⟩) Q) :
    iprop(ctx P A K c ∗ R ∗ Waiting P A c f ix d r.val) ⊢ Run c (.op (.waitDma2 s src dst hw hw') k) Q := by
  subst hs
  unfold Waiting
  rw [todo_step]
  iintro ⟨#HC, HR, ⟨⟨Hc, Hat⟩, Htodo⟩, Hdone, %W, HO⟩
  iapply (Rounds.wp_wait_rest_token 𝒱₀ ER (rd P A) (c : Thread nD τ) none (κ := K (dcell c f (ix r))) (k' := N)
      (fun Kt => (wpE_waitDma2_eq 𝒱₀ (c : Thread nD τ) none Set.univ Kt).trans (by rw [hN])) (Set.mem_univ _) () (O := owed c 15 15 d) (W := W) (R := 0) (m := 0) (T := ∅)
      ((Nat.zero_add N).trans (expect_dma P A c f (ix r) (hix r)).symm)) $$ [Hc HO Hat]
  · isplitr; · iapply (ctx_copy P A K c c f (ix r)); iexact HC
    isplitl [Hc]; · iexact Hc
    isplitl [HO]; · iexact HO
    isplitr
    · iapply (ctx_may P A K c _ (hmay (ix r))); iexact HC
    iexact Hat
  iintro ⟨HO, Hat, -, Hpay⟩
  ihave Hp := (Entails.of_eq (rest_dma P A c f (ix r) (hix r))) $$ Hpay
  iapply hk
  isplitr; · iexact HC
  isplitl [HR]; · iexact HR
  unfold Waiting
  rw [done_step]
  isplitl [Htodo]; · iexact Htodo
  isplitl [Hp Hat Hdone]
  · isplitl [Hp Hat]
    · isplitl [Hp]; · iexact Hp
      iexact Hat
    iexact Hdone
  iexists _; iexact HO

/-- The wait for the fifteen signals: every peer's two places, and that its cells for them are open. -/
theorem bar_step {α : Type} {Q : α → sProp 𝕄} {R : sProp 𝕄} {j : Int} {k : PUnit → Prog (TpuEff nD τ sig (Elt F) Λ₀ .tc) α}
    (hk : iprop(ctx P A K c ∗ R ∗ (atPos ER (barCell c) 1 ∅ 0 ∗ (bigSep Finset.univ fun r : Fin 15 => barPay (F := F) c (peer c r)) ∗ ∃ W, owes (c : Thread nD τ) (owed c 15 0 0) W))
      ⊢ Run c (k ⟨⟩) Q) (hj : j = ((15 : ℕ) : Int)) :
    iprop(ctx P A K c ∗ R ∗ (cred (tallyAt (barCell c) () 15) ∗ atPos ER (barCell c) 0 ∅ 0 ∗ Sig c 15)) ⊢ Run c (.op (.semWait barS j) k) Q := by
  subst hj
  unfold Sig
  iintro ⟨#HC, HR, Hc, Hat, -, %W, HO⟩
  ihave ⟨#HI, -⟩ := (ctx_bar P A K c c) $$ HC
  iapply (Rounds.wp_wait_rest_token 𝒱₀ ER (rd P A) (c : Thread nD τ) none (κ := K (barCell c)) (k' := 15)
      (wpE_semWait_eq 𝒱₀ (c : Thread nD τ) none Set.univ) (Set.mem_univ _) () (O := owed c 15 0 0) (W := W) (R := 0) (m := 0) (T := ∅)
      (by rw [expect_bar])) $$ [Hc HO Hat]
  · isplitr; · iexact HI
    isplitl [Hc]; · iexact Hc
    isplitl [HO]; · iexact HO
    isplitr
    · iapply (ctx_may P A K c _ (mayWait_bar c)); iexact HC
    iexact Hat
  iintro ⟨HO, Hat, -, Hpay⟩
  ihave Hp := (Entails.of_eq (rest_bar P A c)) $$ Hpay
  iapply hk
  isplitr; · iexact HC
  isplitl [HR]; · iexact HR
  isplitl [Hat]; · iexact Hat
  isplitl [Hp]; · iexact Hp
  iexists _; iexact HO

end Steps

end Cert.KernelIdealProof

end
-- ==== Proof.KernelIdealLocal.lean ====
/-
# What a device computes by itself, and the loads and stores that do it

The buffers a device uses before it talks, as functions of its five staged inputs: the attention context (eight tiles, one per batch and head),
the partial product in full precision, and its rounding, which is what is sent. Then the rules for a load and a store of a whole buffer, with
the contents read as plain functions.
-/
module

public import proofs.«01_k».proof.Proof.KernelIdealSteps
public import Idealize.ShloMosaic.Lib.VecWindow

@[expose] public section

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.ValueIdx
open Idealize.ShloMosaic.VecWindow

variable {F : FTy → Type} [FloatOps F] [Named F]

local notation "𝕄" => MT nD τ sig Unit (Elt F) ℕ UU ℕ

/-! ## Contents -/

/-- The five staged inputs of a device. -/
structure Inputs (F : FTy → Type) where
  x : Vec F S2x256x512 .bf16
  wq : Vec F S512x256 .bf16
  k : Vec F S2x256x4x64 .bf16
  v : Vec F S2x256x4x64 .bf16
  wo : Vec F S256x512 .bf16

namespace Inputs

variable (I : Inputs F)

def q : FVec F S512x256 .bf16 := k0_pay3 I.wq I.x
def rowBlock : IVec S256x256 32 := k0_pay5 (iota .tc S256x256 32 [0] iota_S256x256_d0_w32) 64#32 k0_pay4
def mask : FVec F S256x256 .f32 := k0_pay9 (F := F) rowBlock k0_pay6 k0_pay7 k0_pay8
def k₀ : Vec F S1x256x4x64 .bf16 := window I.k ![0, 0, 0, 0] S1x256x4x64.size inb_S2x256x4x64_S1x256x4x64_0_0_0_0
def k₁ : Vec F S1x256x4x64 .bf16 := window I.k ![1, 0, 0, 0] S1x256x4x64.size inb_S2x256x4x64_S1x256x4x64_1_0_0_0
def v₀ : Vec F S1x256x4x64 .bf16 := window I.v ![0, 0, 0, 0] S1x256x4x64.size inb_S2x256x4x64_S1x256x4x64_0_0_0_0
def v₁ : Vec F S1x256x4x64 .bf16 := window I.v ![1, 0, 0, 0] S1x256x4x64.size inb_S2x256x4x64_S1x256x4x64_1_0_0_0

/-- The eight tiles of the context: batch, then head. -/
def tile (b : Fin 2) (h : Fin 4) : FVec F S256x64 .f32 :=
  match b, h with
  | 0, 0 => k0_pay12 I.q rowBlock k0_pay6 k0_pay7 k0_pay8 I.k₀ I.v₀
  | 0, 1 => k0_pay14 (k0_pay13 I.q rowBlock k0_pay6 k0_pay7 k0_pay8 I.k₀ I.v₀)
  | 0, 2 => k0_pay15 I.q mask (k0_pay10 I.k₀) (k0_pay11 I.v₀)
  | 0, 3 => k0_pay16 I.q mask (k0_pay10 I.k₀) (k0_pay11 I.v₀)
  | 1, 0 => k0_pay20 mask (k0_pay17 I.k₁) (k0_pay18 I.v₁) (k0_pay19 I.q)
  | 1, 1 => k0_pay21 I.q mask (k0_pay17 I.k₁) (k0_pay18 I.v₁)
  | 1, 2 => k0_pay23 (k0_pay22 I.q mask (k0_pay17 I.k₁) (k0_pay18 I.v₁))
  | 1, 3 => k0_pay24 I.q mask (k0_pay17 I.k₁) (k0_pay18 I.v₁)

/-- The context: each tile in its place. -/
def context : Vec F S512x256 .f32 := fun i =>
  I.tile ⟨(i 0).val / 256, by have : (i 0).val < 512 := (i 0).isLt; omega⟩ ⟨(i 1).val / 64, by have : (i 1).val < 256 := (i 1).isLt; omega⟩
    (ix2 (⟨(i 0).val % 256, Nat.mod_lt _ (by decide)⟩ : Fin 256) (⟨(i 1).val % 64, Nat.mod_lt _ (by decide)⟩ : Fin 64))

/-- The partial product, and its rounding. -/
def acc : Vec F S512x512 .f32 := k0_pay26 (k0_pay2 I.wo) I.context
def part : PartBuf F := k0_pay27 (k0_pay2 I.wo) I.context

/-- One tile put over contents that agree with the context wherever `D` holds: they then agree on the tile too. -/
theorem put_tile (b : Fin 2) (h : Fin 4) {o : Fin 2 → ℕ} (ho : o = ![256 * b.val, 64 * h.val]) (f : Vec F S512x256 .f32) (D : ℕ → ℕ → Prop)
    (hf : ∀ i : S512x256.Idx, D ((i 0).val / 256) ((i 1).val / 64) → f i = I.context i) (i : S512x256.Idx)
    (hi : ((i 0).val / 256 = b.val ∧ (i 1).val / 64 = h.val) ∨ D ((i 0).val / 256) ((i 1).val / 64)) :
    put (s := S512x256) f o S256x64.size (I.tile b h) i = I.context i := by
  subst ho
  have h0 : (i 0).val < 512 := (i 0).isLt
  have h1 : (i 1).val < 256 := (i 1).isLt
  have hb := b.isLt
  have hh := h.isLt
  unfold put
  split_ifs with hin
  · have a0 : 256 * b.val ≤ (i 0).val ∧ (i 0).val < 256 * b.val + 256 := hin 0
    have a1 : 64 * h.val ≤ (i 1).val ∧ (i 1).val < 64 * h.val + 64 := hin 1
    have e0 : (⟨(i 0).val / 256, by omega⟩ : Fin 2) = b := Fin.ext (by show _ / 256 = _; omega)
    have e1 : (⟨(i 1).val / 64, by omega⟩ : Fin 4) = h := Fin.ext (by show _ / 64 = _; omega)
    unfold context
    rw [e0, e1]
    refine congrArg (I.tile b h) (funext fun a => Fin.ext ?_)
    fin_cases a
    · show (i 0).val - 256 * b.val = (i 0).val % 256; omega
    · show (i 1).val - 64 * h.val = (i 1).val % 64; omega
  · refine hf i (hi.resolve_left fun ⟨e0, e1⟩ => hin fun a => ?_)
    fin_cases a
    · show 256 * b.val ≤ (i 0).val ∧ (i 0).val < 256 * b.val + 256; omega
    · show 64 * h.val ≤ (i 1).val ∧ (i 1).val < 64 * h.val + 64; omega

/-- The eight stores leave the context, whatever the buffer held. -/
theorem context_of_puts (f : Vec F S512x256 .f32) :
    put (s := S512x256) (put (s := S512x256) (put (s := S512x256) (put (s := S512x256) (put (s := S512x256) (put (s := S512x256) (put (s := S512x256) (put (s := S512x256) f
      ![0, 0] S256x64.size (I.tile 0 0)) ![0, 64] S256x64.size (I.tile 0 1)) ![0, 128] S256x64.size (I.tile 0 2)) ![0, 192] S256x64.size (I.tile 0 3))
      ![256, 0] S256x64.size (I.tile 1 0)) ![256, 64] S256x64.size (I.tile 1 1)) ![256, 128] S256x64.size (I.tile 1 2)) ![256, 192] S256x64.size (I.tile 1 3) = I.context := by
  funext i
  have h0 : (i 0).val < 512 := (i 0).isLt
  have h1 : (i 1).val < 256 := (i 1).isLt
  refine I.put_tile 1 3 rfl _ (fun a b => a = 0 ∨ b < 3) (fun i hi => ?_) i (by show (_ = 1 ∧ _ = 3) ∨ _; omega)
  refine I.put_tile 1 2 rfl _ (fun a b => a = 0 ∨ b < 2) (fun i hi => ?_) i (by have := (i 0).isLt; show (_ = 1 ∧ _ = 2) ∨ _; have : (i 0).val < 512 := (i 0).isLt; omega)
  refine I.put_tile 1 1 rfl _ (fun a b => a = 0 ∨ b < 1) (fun i hi => ?_) i (by show (_ = 1 ∧ _ = 1) ∨ _; have : (i 0).val < 512 := (i 0).isLt; omega)
  refine I.put_tile 1 0 rfl _ (fun a b => a = 0) (fun i hi => ?_) i (by show (_ = 1 ∧ _ = 0) ∨ _; have : (i 0).val < 512 := (i 0).isLt; omega)
  refine I.put_tile 0 3 rfl _ (fun a b => a = 0 ∧ b < 3) (fun i hi => ?_) i (by show (_ = 0 ∧ _ = 3) ∨ _; have : (i 1).val < 256 := (i 1).isLt; omega)
  refine I.put_tile 0 2 rfl _ (fun a b => a = 0 ∧ b < 2) (fun i hi => ?_) i (by show (_ = 0 ∧ _ = 2) ∨ _; omega)
  refine I.put_tile 0 1 rfl _ (fun a b => a = 0 ∧ b < 1) (fun i hi => ?_) i (by show (_ = 0 ∧ _ = 1) ∨ _; omega)
  exact I.put_tile 0 0 rfl _ (fun a b => False) (fun i hi => hi.elim) i (by show (_ = 0 ∧ _ = 0) ∨ _; omega)

end Inputs

/-! ## Loads and stores of a whole buffer -/

section Access

variable (c : Dev nD)

/-- A load of a window. -/
theorem load_win {α : Type} {Q : α → sProp 𝕄} {cs : CoreSpace} {i : Fin (sig.nNear .tc cs)} {hκ : sig.names .tc cs i = true} {off size : Fin (sig.tyNear .tc cs i).shape.rank → ℕ}
    {inb : ∀ a, off a + size a ≤ (sig.tyNear .tc cs i).shape.size a}
    {hl : (Memref.whole ⟨cs, i, hκ⟩ : Memref sig .tc _ _ _).view.LoadsAt (Rect.unit off size inb).toLoadRect} {k} {q : PosShare TreeShare} {f : Buf (Elt F) ((c : Thread nD τ).loc ⟨cs, i, hκ⟩)} :
    (((c : Thread nD τ).loc ⟨cs, i, hκ⟩) ↦{q} f : sProp 𝕄)
      ⊢ iprop(((((c : Thread nD τ).loc ⟨cs, i, hκ⟩) ↦{q} f) -∗ Run c (k (window (s := (sig.tyNear .tc cs i).shape) f off size inb)) Q)
        -∗ Run c (.op (.load (Memref.whole ⟨cs, i, hκ⟩) (Rect.unit off size inb).toLoadRect hl) k) Q) :=
  wp_load (defs := defs₀ (F := F)) 𝒱₀ (c : Thread nD τ) none Set.univ (m := Memref.whole ⟨cs, i, hκ⟩) (r := (Rect.unit off size inb).toLoadRect) (hl := hl) (k := k) (q := q) (f := f)
    (S := Finset.univ) (Finset.subset_univ _)

/-- A window that is everything. -/
theorem window_all {A : Type} {s : Shape} (f : s.Idx → A) (off : Fin s.rank → ℕ) (inb : ∀ a, off a + s.size a ≤ s.size a) : window f off s.size inb = f := by
  funext y
  exact congrArg f (Rect.emb_unit_full inb y)
theorem put_all {A : Type} {s : Shape} (f : s.Idx → A) (off : Fin s.rank → ℕ) (inb : ∀ a, off a + s.size a ≤ s.size a) (w : s.Idx → A) : put f off s.size w = w := by
  have h := window_put_same f off s.size inb w
  rwa [window_all] at h

/-- A store to a window. -/
theorem store_win {α : Type} {Q : α → sProp 𝕄} {cs : CoreSpace} {i : Fin (sig.nNear .tc cs)} {hκ : sig.names .tc cs i = true} {off size : Fin (sig.tyNear .tc cs i).shape.rank → ℕ}
    {inb : ∀ a, off a + size a ≤ (sig.tyNear .tc cs i).shape.size a} {w : (Rect.unit off size inb).shape.Idx → Elt F (sig.tyNear .tc cs i).elt}
    {hx : ((Memref.whole ⟨cs, i, hκ⟩ : Memref sig .tc _ _ _).access (Rect.unit off size inb)).Stores Finset.univ} {hm} {k} {f : Buf (Elt F) ((c : Thread nD τ).loc ⟨cs, i, hκ⟩)} :
    (((c : Thread nD τ).loc ⟨cs, i, hκ⟩) ↦{fullShare} f : sProp 𝕄)
      ⊢ iprop(((((c : Thread nD τ).loc ⟨cs, i, hκ⟩) ↦{fullShare} (put (s := (sig.tyNear .tc cs i).shape) f off size w : Buf (Elt F) ((c : Thread nD τ).loc ⟨cs, i, hκ⟩))) -∗ Run c (k ⟨⟩) Q)
        -∗ Run c (.op (.store (Memref.whole ⟨cs, i, hκ⟩) (Rect.unit off size inb) w Finset.univ hx hm) k) Q) := by
  have h := wp_store (defs := defs₀ (F := F)) 𝒱₀ (c : Thread nD τ) none (Γ := .empty) Set.univ (Q := Q) (m := Memref.whole ⟨cs, i, hκ⟩) (r := Rect.unit off size inb) (w := w)
    (Mk := Finset.univ) (hx := hx) (hm := hm) (k := k) (f := f) (S := Finset.univ) (Finset.subset_univ _)
  have e : ((Memref.whole ⟨cs, i, hκ⟩ : Memref sig .tc _ _ _).access (Rect.unit off size inb)).write (Elt F) f w Finset.univ
      = (put (s := (sig.tyNear .tc cs i).shape) f off size w : Buf (Elt F) ((c : Thread nD τ).loc ⟨cs, i, hκ⟩)) :=
    View.read_writes_cons_put (Memref.whole ⟨cs, i, hκ⟩ : Memref sig .tc _ _ _).view f inb w [] rfl
  rwa [e] at h

end Access

/-! ## The parts of the body up to the handshake -/

/-- A part of the body applied to its buffers. -/
abbrev onBufs {β : Type*} (f : (arg0 : Memref sig .tc .vmem S2x256x512 .bf16) → arg0.IsWhole → (arg1 : Memref sig .tc .vmem S512x256 .bf16) → arg1.IsWhole
    → (arg2 : Memref sig .tc .vmem S2x256x4x64 .bf16) → arg2.IsWhole → (arg3 : Memref sig .tc .vmem S2x256x4x64 .bf16) → arg3.IsWhole
    → (arg4 : Memref sig .tc .vmem S256x512 .bf16) → arg4.IsWhole → (arg5 : Memref sig .tc .vmem S2x256x512 .f32) → arg5.IsWhole
    → (arg6 : Memref sig .tc .vmem S512x512 .f32) → arg6.IsWhole → (arg7 : Memref sig .tc .vmem S512x512 .bf16) → arg7.IsWhole
    → (arg8 : Memref sig .tc .vmem S16x32x512 .bf16) → arg8.IsWhole → (arg9 : Memref sig .tc .vmem S512x512 .bf16) → arg9.IsWhole
    → (arg10 : Memref sig .tc .vmem S512x256 .f32) → arg10.IsWhole → DmaSems sig S16 → DmaSems sig S16 → DmaSems sig S16 → DmaSems sig S16 → β) : β :=
  f (Memref.whole cc0_stg0_0) (Memref.isWhole_whole _) (Memref.whole cc0_stg1_0) (Memref.isWhole_whole _) (Memref.whole cc0_stg2_0) (Memref.isWhole_whole _)
    (Memref.whole cc0_stg3_0) (Memref.isWhole_whole _) (Memref.whole cc0_stg4_0) (Memref.isWhole_whole _) (Memref.whole cc0_stg5_0) (Memref.isWhole_whole _)
    (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) cc0_scratch5 cc0_scratch6 cc0_scratch7 cc0_scratch8

variable (P : Parts F) (A : GathBuf F) (K : GSem nD τ sig → ℕ) (c : Dev nD)

/-- A stretch of the body: from `Pre` it runs to a result of which `V` holds, leaving `Post`, whatever else is held and whatever follows. -/
def Stretch {α : Type} (p : Prog (TpuEff nD τ sig (Elt F) Λ₀ .tc) α) (V : α → Prop) (Pre Post : sProp 𝕄) : Prop :=
  ∀ {β : Type} (κ : α → Prog (TpuEff nD τ sig (Elt F) Λ₀ .tc) β) (Q : β → sProp 𝕄) (R : sProp 𝕄),
    (∀ v, V v → iprop(ctx P A K c ∗ R ∗ Post) ⊢ Run c (κ v) Q) → iprop(ctx P A K c ∗ R ∗ Pre) ⊢ Run c (p >>= κ) Q

/-- Held things regrouped. -/
theorem sep_assoc_four (X R Y Z : sProp 𝕄) : iprop(X ∗ (R ∗ Y) ∗ Z) ⊢ iprop(X ∗ R ∗ Y ∗ Z) := by
  iintro ⟨HX, ⟨HR, HY⟩, HZ⟩
  isplitl [HX]; · iexact HX
  isplitl [HR]; · iexact HR
  isplitl [HY]; · iexact HY
  iexact HZ

theorem sep_regroup (X R Y Z : sProp 𝕄) : iprop(X ∗ R ∗ Y ∗ Z) ⊢ iprop(X ∗ (R ∗ Y) ∗ Z) := by
  iintro ⟨HX, HR, HY, HZ⟩
  isplitl [HX]; · iexact HX
  isplitl [HR HY]
  · isplitl [HR]; · iexact HR
    iexact HY
  iexact HZ

/-- The first part: who the device is, and five signals. -/
theorem part1_run : Stretch P A K c (onBufs (k0_part1 (F := F))) (fun v => v.1 = c ∧ v.2.2.1 = SemArray.scalar (sig.barrier 0 rfl)) (Sig c 0) (Sig c 5) := by
  intro β κ Q R hk
  rw [k0_part1_eq_skeleton]
  unfold onBufs k0_part1_skel
  simp only [semSignalWord, Prog.lift, Prog.bind_op, Prog.bind_ret, Prog.pure_eq_ret, wp_deviceId]
  refine sig_step P A K c 0 (k0_dev1_eq c) rfl ?_
  refine sig_step P A K c 1 (k0_dev2_eq c) rfl ?_
  refine sig_step P A K c 2 (k0_dev3_eq c) rfl ?_
  refine sig_step P A K c 3 (k0_dev4_eq c) rfl ?_
  refine sig_step P A K c 4 (k0_dev5_eq c) rfl ?_
  exact hk _ ⟨rfl, rfl⟩

/-- Six more signals. -/
theorem part2_run {v2 v24 x : BitVec 32} :
    Stretch P A K c (onBufs (k0_part2 (F := F)) c v2 (SemArray.scalar (sig.barrier 0 rfl)) v24 x) (fun _ => True) (Sig c 5) (Sig c 11) := by
  intro β κ Q R hk
  rw [k0_part2_eq_skeleton]
  unfold onBufs k0_part2_skel
  simp only [semSignalWord, Prog.lift, Prog.bind_op, Prog.bind_ret, Prog.pure_eq_ret]
  refine sig_step P A K c 5 (k0_dev6_eq c) rfl ?_
  refine sig_step P A K c 6 (k0_dev7_eq c) rfl ?_
  refine sig_step P A K c 7 (k0_dev8_eq c) rfl ?_
  refine sig_step P A K c 8 (k0_dev9_eq c) rfl ?_
  refine sig_step P A K c 9 (k0_dev10_eq c) rfl ?_
  refine sig_step P A K c 10 (k0_dev11_eq c) rfl ?_
  exact hk _ trivial

/-- The five staged inputs, held. -/
def staged (I : Inputs F) : sProp 𝕄 :=
  iprop(((c : Thread nD τ).loc cc0_stg0_0 ↦{fullShare} I.x) ∗ ((c : Thread nD τ).loc cc0_stg1_0 ↦{fullShare} I.wq) ∗ ((c : Thread nD τ).loc cc0_stg2_0 ↦{fullShare} I.k)
    ∗ ((c : Thread nD τ).loc cc0_stg3_0 ↦{fullShare} I.v) ∗ ((c : Thread nD τ).loc cc0_stg4_0 ↦{fullShare} I.wo))
/-- The buffer of the context, held. -/
abbrev ctxPt (f : Vec F S512x256 .f32) : sProp 𝕄 := (c : Thread nD τ).loc cc0_scratch4 ↦{fullShare} f
abbrev accPt (f : Vec F S512x512 .f32) : sProp 𝕄 := (c : Thread nD τ).loc cc0_scratch0 ↦{fullShare} f
abbrev sendPt (f : PartBuf F) : sProp 𝕄 := (c : Thread nD τ).loc cc0_scratch1 ↦{fullShare} f

variable (I : Inputs F)

/-- The last four signals, and the queries. -/
theorem part3_run {v2 v48 x : BitVec 32} :
    Stretch P A K c (onBufs (k0_part3 (F := F)) c v2 (SemArray.scalar (sig.barrier 0 rfl)) v48 x)
      (fun v => v = ⟨k0_pay2 I.wo, I.q, iota .tc S256x256 32 [0] iota_S256x256_d0_w32, 64#32, k0_pay4⟩) iprop(staged c I ∗ Sig c 11) iprop(staged c I ∗ Sig c 15) := by
  intro β κ Q R hk
  rw [k0_part3_eq_skeleton]
  unfold onBufs k0_part3_skel
  simp only [semSignalWord, Prog.lift, Prog.bind_op, Prog.bind_ret, Prog.pure_eq_ret]
  refine (sep_regroup _ _ _ _).trans ?_
  refine sig_step P A K c 11 (k0_dev12_eq c) rfl ?_
  refine sig_step P A K c 12 (k0_dev13_eq c) rfl ?_
  refine sig_step P A K c 13 (k0_dev14_eq c) rfl ?_
  refine sig_step P A K c 14 (k0_dev15_eq c) rfl ?_
  unfold staged
  iintro ⟨#HC, ⟨HR, Hx, Hwq, Hk, Hv, Hwo⟩, HS⟩
  iapply (load_win (F := F) c) $$ Hwq
  iintro Hwq
  iapply (load_win (F := F) c) $$ Hwo
  iintro Hwo
  iapply (load_win (F := F) c) $$ Hx
  iintro Hx
  iapply (hk _ (by
    rw [window_all (s := S512x256) I.wq, window_all (s := S256x512) I.wo, window_all (s := S2x256x512) I.x]; rfl))
  unfold staged
  isplitr; · iexact HC
  isplitl [HR]; · iexact HR
  isplitl [Hx Hwq Hk Hv Hwo]
  · isplitl [Hx]; · iexact Hx
    isplitl [Hwq]; · iexact Hwq
    isplitl [Hk]; · iexact Hk
    isplitl [Hv]; · iexact Hv
    iexact Hwo
  iexact HS

theorem part4_run {v75 : IVec S256x256 32} {x : BitVec 32} {v76 : IVec S256x256 32} :
    Stretch P A K c (onBufs (k0_part4 (F := F)) v75 x v76) (fun v => v = ⟨k0_pay5 v75 x v76, k0_pay6, k0_pay7, k0_pay8⟩) (BI.emp : sProp 𝕄) (BI.emp : sProp 𝕄) := by
  intro β κ Q R hk
  rw [k0_part4_eq_skeleton]
  exact hk _ rfl

/-- The first tile. -/
theorem part5_run (f : Vec F S512x256 .f32) :
    Stretch P A K c (onBufs (k0_part5 (F := F)) I.q Inputs.rowBlock k0_pay6 k0_pay7 k0_pay8)
      (fun v => v.1 = Inputs.mask ∧ v.2.1 = k0_pay10 I.k₀ ∧ v.2.2.1 = k0_pay11 I.v₀ ∧ v.2.2.2.1 = k0_pay13 I.q Inputs.rowBlock k0_pay6 k0_pay7 k0_pay8 I.k₀ I.v₀)
      iprop(staged c I ∗ ctxPt c f) iprop(staged c I ∗ ctxPt c (put (s := S512x256) f ![0, 0] S256x64.size (I.tile 0 0))) := by
  intro β κ Q R hk
  rw [k0_part5_eq_skeleton]
  unfold onBufs k0_part5_skel staged
  simp only [Prog.lift, Prog.bind_op, Prog.bind_ret, Prog.pure_eq_ret]
  iintro ⟨#HC, HR, ⟨Hx, Hwq, Hk, Hv, Hwo⟩, Hf⟩
  iapply (load_win (F := F) c) $$ Hk
  iintro Hk
  iapply (load_win (F := F) c) $$ Hv
  iintro Hv
  iapply (load_win (F := F) c) $$ Hf
  iintro Hf
  iapply (store_win (F := F) c) $$ Hf
  iintro Hf
  iapply (load_win (F := F) c) $$ Hf
  iintro Hf
  iapply (hk _ ⟨rfl, rfl, rfl, rfl⟩)
  unfold staged
  isplitr; · iexact HC
  isplitl [HR]; · iexact HR
  isplitl [Hx Hwq Hk Hv Hwo]
  · isplitl [Hx]; · iexact Hx
    isplitl [Hwq]; · iexact Hwq
    isplitl [Hk]; · iexact Hk
    isplitl [Hv]; · iexact Hv
    iexact Hwo
  iexact Hf

/-- Three more tiles, and the second batch's keys and values. -/
theorem part6_run (f : Vec F S512x256 .f32) {x : Vec F S256x64 .f32} :
    Stretch P A K c (onBufs (k0_part6 (F := F)) I.q Inputs.mask (k0_pay10 I.k₀) (k0_pay11 I.v₀) (k0_pay13 I.q Inputs.rowBlock k0_pay6 k0_pay7 k0_pay8 I.k₀ I.v₀) x)
      (fun v => v = ⟨k0_pay17 I.k₁, k0_pay18 I.v₁, k0_pay19 I.q⟩)
      iprop(staged c I ∗ ctxPt c f)
      iprop(staged c I ∗ ctxPt c (put (s := S512x256) (put (s := S512x256) (put (s := S512x256) f ![0, 64] S256x64.size (I.tile 0 1)) ![0, 128] S256x64.size (I.tile 0 2))
        ![0, 192] S256x64.size (I.tile 0 3))) := by
  intro β κ Q R hk
  rw [k0_part6_eq_skeleton]
  unfold onBufs k0_part6_skel staged
  simp only [Prog.lift, Prog.bind_op, Prog.bind_ret, Prog.pure_eq_ret]
  iintro ⟨#HC, HR, ⟨Hx, Hwq, Hk, Hv, Hwo⟩, Hf⟩
  iapply (store_win (F := F) c) $$ Hf
  iintro Hf
  iapply (load_win (F := F) c) $$ Hf
  iintro Hf
  iapply (store_win (F := F) c) $$ Hf
  iintro Hf
  iapply (load_win (F := F) c) $$ Hf
  iintro Hf
  iapply (store_win (F := F) c) $$ Hf
  iintro Hf
  iapply (load_win (F := F) c) $$ Hk
  iintro Hk
  iapply (load_win (F := F) c) $$ Hv
  iintro Hv
  iapply (hk _ rfl)
  unfold staged
  isplitr; · iexact HC
  isplitl [HR]; · iexact HR
  isplitl [Hx Hwq Hk Hv Hwo]
  · isplitl [Hx]; · iexact Hx
    isplitl [Hwq]; · iexact Hwq
    isplitl [Hk]; · iexact Hk
    isplitl [Hv]; · iexact Hv
    iexact Hwo
  iexact Hf

/-- The second batch's first two tiles. -/
theorem part7_run (f : Vec F S512x256 .f32) :
    Stretch P A K c (onBufs (k0_part7 (F := F)) I.q Inputs.mask (k0_pay17 I.k₁) (k0_pay18 I.v₁) (k0_pay19 I.q))
      (fun v => v = k0_pay22 I.q Inputs.mask (k0_pay17 I.k₁) (k0_pay18 I.v₁)) (ctxPt c f)
      (ctxPt c (put (s := S512x256) (put (s := S512x256) f ![256, 0] S256x64.size (I.tile 1 0)) ![256, 64] S256x64.size (I.tile 1 1))) := by
  intro β κ Q R hk
  rw [k0_part7_eq_skeleton]
  unfold onBufs k0_part7_skel
  simp only [Prog.lift, Prog.bind_op, Prog.bind_ret, Prog.pure_eq_ret]
  iintro ⟨#HC, HR, Hf⟩
  iapply (load_win (F := F) c) $$ Hf
  iintro Hf
  iapply (store_win (F := F) c) $$ Hf
  iintro Hf
  iapply (load_win (F := F) c) $$ Hf
  iintro Hf
  iapply (store_win (F := F) c) $$ Hf
  iintro Hf
  iapply (load_win (F := F) c) $$ Hf
  iintro Hf
  iapply (hk _ rfl)
  isplitr; · iexact HC
  isplitl [HR]; · iexact HR
  iexact Hf

/-- The last two tiles, the partial product, and the wait for the fifteen signals. -/
theorem part8_run (f : Vec F S512x256 .f32)
    (hf : put (s := S512x256) (put (s := S512x256) f ![256, 128] S256x64.size (k0_pay23 (k0_pay22 I.q Inputs.mask (k0_pay17 I.k₁) (k0_pay18 I.v₁)))) ![256, 192] S256x64.size
      (k0_pay24 I.q Inputs.mask (k0_pay17 I.k₁) (k0_pay18 I.v₁)) = I.context) {v2 : BitVec 32} :
    Stretch P A K c (onBufs (k0_part8 (F := F)) c v2 (SemArray.scalar (sig.barrier 0 rfl)) (k0_pay2 I.wo) I.q Inputs.mask (k0_pay17 I.k₁) (k0_pay18 I.v₁)
        (k0_pay22 I.q Inputs.mask (k0_pay17 I.k₁) (k0_pay18 I.v₁))) (fun _ => True)
      iprop((ctxPt c f ∗ (∃ g, accPt c g) ∗ (∃ g, sendPt c g)) ∗ cred (tallyAt (barCell c) () 15) ∗ atPos ER (barCell c) 0 ∅ 0 ∗ Sig c 15)
      iprop((ctxPt c I.context ∗ accPt c I.acc ∗ sendPt c I.part)
        ∗ atPos ER (barCell c) 1 ∅ 0 ∗ (bigSep Finset.univ fun r : Fin 15 => barPay (F := F) c (peer c r)) ∗ ∃ W, owes (c : Thread nD τ) (owed c 15 0 0) W) := by
  intro β κ Q R hk
  rw [k0_part8_eq_skeleton]
  unfold onBufs k0_part8_skel
  simp only [semWaitWord, Prog.lift, Prog.bind_op, Prog.bind_ret, Prog.pure_eq_ret]
  iintro ⟨#HC, HR, ⟨Hf, ⟨%g, Hg⟩, ⟨%h, Hh⟩⟩, HB⟩
  iapply (store_win (F := F) c) $$ Hf
  iintro Hf
  iapply (load_win (F := F) c) $$ Hf
  iintro Hf
  iapply (store_win (F := F) c) $$ Hf
  iintro Hf
  ihave Hf' := (Entails.of_eq (congrArg (fun z : Vec F S512x256 .f32 => ctxPt c z) hf)) $$ Hf
  iapply (load_win (F := F) c) $$ Hf'
  rw [window_all (s := S512x256) I.context]
  iintro Hf
  iapply (load_win (F := F) c) $$ Hg
  iintro Hg
  iapply (store_win (F := F) c) $$ Hg
  rw [put_all (s := S512x512) g _ inb_S512x512_S512x512_0_0]
  iintro Hg
  iapply (load_win (F := F) c) $$ Hh
  iintro Hh
  iapply (store_win (F := F) c) $$ Hh
  rw [put_all (s := S512x512) h _ inb_S512x512_S512x512_0_0]
  iintro Hh
  iapply (bar_step (F := F) P A K c (R := iprop(R ∗ ctxPt c I.context ∗ accPt c I.acc ∗ sendPt c I.part)) (k := fun a => κ a) ((sep_assoc_four _ _ _ _).trans (hk _ trivial)) rfl)
  isplitr; · iexact HC
  isplitl [HR Hf Hg Hh]
  · isplitl [HR]; · iexact HR
    isplitl [Hf]; · iexact Hf
    isplitl [Hg]; · iexact Hg
    iexact Hh
  iexact HB

end Cert.KernelIdealProof

end
-- ==== Proof.KernelIdealExchange.lean ====
/-
# The body from its copies on

The thirty copies and the sixty waits, one line each, and between them the device's own work: it zeroes its own landing slot, adds the landed
slots to its chunk of the partial product, and at the end reads the gathered buffer out. Each printed part of the body is a stretch from what
it needs to what it leaves.
-/
module

public import proofs.«01_k».proof.Proof.KernelIdealLocal

@[expose] public section

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.ValueIdx
open Idealize.ShloMosaic.VecWindow

variable {F : FTy → Type} [FloatOps F] [Named F]

local notation "𝕄" => MT nD τ sig Unit (Elt F) ℕ UU ℕ

/-! ## A device's own slot and chunk -/

/-- Two families held are a family of pairs held. -/
theorem zip_sep {I : Type} [DecidableEq I] (s : Finset I) (Φ Ψ : I → sProp 𝕄) : iprop(bigSep s Φ ∗ bigSep s Ψ) ⊢ bigSep s fun r => iprop(Φ r ∗ Ψ r) :=
  Entails.of_eq (bigSep_sep s Φ Ψ).symm
theorem unzip_sep {I : Type} [DecidableEq I] (s : Finset I) (Φ Ψ : I → sProp 𝕄) : (bigSep s fun r => iprop(Φ r ∗ Ψ r)) ⊢ iprop(bigSep s Φ ∗ bigSep s Ψ) :=
  Entails.of_eq (bigSep_sep s Φ Ψ)

section Own

variable (c : Dev nD)

theorem comm_access {o : Fin 3 → ℕ} {inb} (k : Fin 16) (h : o = ![k.val, 0, 0]) :
    ((Memref.whole cc0_scratch2 : Memref sig .tc .vmem S16x32x512 .bf16).access (Rect.unit o S1x32x512.size inb)).set = commSet k := by
  subst h; exact (Memref.set_view_squeeze _ _).symm
theorem gath_access {o : Fin 2 → ℕ} {inb} (k : Fin 16) (h : o = ![32 * k.val, 0]) :
    ((Memref.whole cc0_scratch3 : Memref sig .tc .vmem S512x512 .bf16).access (Rect.unit o S32x512.size inb)).set = gathSet k := by
  subst h; rfl

/-- Reading inside a part of a buffer that is held. -/
theorem load_part {α : Type} {Q : α → sProp 𝕄} {cs : CoreSpace} {i : Fin (sig.nNear .tc cs)} {hκ : sig.names .tc cs i = true} {off size : Fin (sig.tyNear .tc cs i).shape.rank → ℕ}
    {inb : ∀ a, off a + size a ≤ (sig.tyNear .tc cs i).shape.size a}
    {hl : (Memref.whole ⟨cs, i, hκ⟩ : Memref sig .tc _ _ _).view.LoadsAt (Rect.unit off size inb).toLoadRect} {k} {q : PosShare TreeShare} {f : Buf (Elt F) ((c : Thread nD τ).loc ⟨cs, i, hκ⟩)}
    {S : Finset (Idx ((c : Thread nD τ).loc ⟨cs, i, hκ⟩))} (hS : ((Memref.whole ⟨cs, i, hκ⟩ : Memref sig .tc _ _ _).access (Rect.unit off size inb)).set ⊆ S) :
    (((c : Thread nD τ).loc ⟨cs, i, hκ⟩) ↦[S]{q} f : sProp 𝕄)
      ⊢ iprop(((((c : Thread nD τ).loc ⟨cs, i, hκ⟩) ↦[S]{q} f) -∗ ∀ x, Run c (k x) Q)
        -∗ Run c (.op (.load (Memref.whole ⟨cs, i, hκ⟩) (Rect.unit off size inb).toLoadRect hl) k) Q) := by
  have h := wp_load_rect (defs := defs₀ (F := F)) 𝒱₀ (c : Thread nD τ) none (Γ := .empty) Set.univ (Q := Q) (m := Memref.whole ⟨cs, i, hκ⟩) (r := Rect.unit off size inb) (hl := hl) (k := k)
    (q := q) (f := f) (S := S) hS
  iintro Hf Hk
  iapply h $$ Hf
  iintro Hf
  iapply Hk $$ Hf

/-- Storing inside a part of a buffer that is held. -/
theorem store_part {α : Type} {Q : α → sProp 𝕄} {cs : CoreSpace} {i : Fin (sig.nNear .tc cs)} {hκ : sig.names .tc cs i = true} {off size : Fin (sig.tyNear .tc cs i).shape.rank → ℕ}
    {inb : ∀ a, off a + size a ≤ (sig.tyNear .tc cs i).shape.size a} {w : (Rect.unit off size inb).shape.Idx → Elt F (sig.tyNear .tc cs i).elt}
    {hx : ((Memref.whole ⟨cs, i, hκ⟩ : Memref sig .tc _ _ _).access (Rect.unit off size inb)).Stores Finset.univ} {hm} {k} {f g : Buf (Elt F) ((c : Thread nD τ).loc ⟨cs, i, hκ⟩)}
    {S : Finset (Idx ((c : Thread nD τ).loc ⟨cs, i, hκ⟩))} (hS : ((Memref.whole ⟨cs, i, hκ⟩ : Memref sig .tc _ _ _).access (Rect.unit off size inb)).set ⊆ S)
    (hg : ∀ y ∈ S, (put (s := (sig.tyNear .tc cs i).shape) f off size w : Buf (Elt F) ((c : Thread nD τ).loc ⟨cs, i, hκ⟩)) y = g y) :
    (((c : Thread nD τ).loc ⟨cs, i, hκ⟩) ↦[S]{fullShare} f : sProp 𝕄)
      ⊢ iprop(((((c : Thread nD τ).loc ⟨cs, i, hκ⟩) ↦[S]{fullShare} g) -∗ Run c (k ⟨⟩) Q)
        -∗ Run c (.op (.store (Memref.whole ⟨cs, i, hκ⟩) (Rect.unit off size inb) w Finset.univ hx hm) k) Q) := by
  have h := wp_store (defs := defs₀ (F := F)) 𝒱₀ (c : Thread nD τ) none (Γ := .empty) Set.univ (Q := Q) (m := Memref.whole ⟨cs, i, hκ⟩) (r := Rect.unit off size inb) (w := w)
    (Mk := Finset.univ) (hx := hx) (hm := hm) (k := k) (f := f) (S := S) (by rw [View.setOn_univ]; exact hS)
  have e : ((Memref.whole ⟨cs, i, hκ⟩ : Memref sig .tc _ _ _).access (Rect.unit off size inb)).write (Elt F) f w Finset.univ
      = (put (s := (sig.tyNear .tc cs i).shape) f off size w : Buf (Elt F) ((c : Thread nD τ).loc ⟨cs, i, hκ⟩)) :=
    View.read_writes_cons_put (Memref.whole ⟨cs, i, hκ⟩ : Memref sig .tc _ _ _).view f inb w [] rfl
  rw [e] at h
  have hc : (((c : Thread nD τ).loc ⟨cs, i, hκ⟩) ↦[S]{fullShare} (put (s := (sig.tyNear .tc cs i).shape) f off size w : Buf (Elt F) ((c : Thread nD τ).loc ⟨cs, i, hκ⟩)) : sProp 𝕄)
      ⊢ (((c : Thread nD τ).loc ⟨cs, i, hκ⟩) ↦[S]{fullShare} g) := Entails.of_eq (pointsTo_congr hg)
  iintro Hf Hk
  iapply h $$ Hf
  iintro Hf
  iapply Hk
  iapply hc $$ Hf

/-- What the kernel stores in a device's own slot. -/
theorem put_slot (P : Parts F) (f : CommBuf F) {o : Fin 3 → ℕ} (h : o = ![c.val, 0, 0]) :
    ∀ i ∈ commSet c, put (s := S16x32x512) f o S1x32x512.size (k0_pay28 (F := F)) i = landed P c i := by
  subst h
  intro i hi
  have h0 := (mem_commSet c i).mp hi
  have i1 : (i 1).val < 32 := (i 1).isLt
  have i2 : (i 2).val < 512 := (i 2).isLt
  have hin : ∀ a : Fin 3, (![c.val, 0, 0] : Fin 3 → ℕ) a ≤ (i a).val ∧ (i a).val < (![c.val, 0, 0] : Fin 3 → ℕ) a + S1x32x512.size a := fun a => by
    match a with
    | 0 => exact ⟨h0.ge, by show (i 0).val < c.val + 1; omega⟩
    | 1 => exact ⟨Nat.zero_le _, by show (i 1).val < 0 + 32; omega⟩
    | 2 => exact ⟨Nat.zero_le _, by show (i 2).val < 0 + 512; omega⟩
  have el : landed P c i = (k0_pay28 (F := F) : S1x32x512.Idx → Elt F .bf16) (ix3 (0 : Fin 1) (i 1) (i 2)) := if_pos h0
  have ep : put (s := S16x32x512) f ![c.val, 0, 0] S1x32x512.size (k0_pay28 (F := F)) i
      = k0_pay28 (F := F) (Rect.unitLocal (s := S16x32x512) (off := ![c.val, 0, 0]) (size := S1x32x512.size) i hin) := dif_pos hin
  rw [el, ep]
  refine congrArg (k0_pay28 (F := F)) (funext fun a => Fin.ext ?_)
  match a with
  | 0 => show (i 0).val - c.val = 0; omega
  | 1 => exact Nat.sub_zero _
  | 2 => exact Nat.sub_zero _

theorem window_off {B : Type} {s : Shape} (f : s.Idx → B) {o o' size : Fin s.rank → ℕ} (h : o = o') (inb : ∀ a, o a + size a ≤ s.size a) (inb' : ∀ a, o' a + size a ≤ s.size a) :
    window f o size inb = window f o' size inb' := by subst h; rfl

end Own

variable (P : Parts F) (A : GathBuf F) (K : GSem nD τ sig → ℕ) (c : Dev nD)

/-! ## The copies of the reduce-scatter -/

theorem part9_run {v2 : BitVec 32} : Stretch P A K c (onBufs (k0_part9 (F := F)) c v2) (fun _ => True) (RsSend P c 0) (RsSend P c 3) := by
  intro β κ Q R hk
  rw [k0_part9_eq_skeleton]
  unfold onBufs k0_part9_skel
  simp only [Prog.lift, Prog.bind_op, Prog.bind_ret, Prog.pure_eq_ret]
  refine rs_step P A K c 0 (k0_dev16_eq c) (partChunk_of _ (k0_off3_eq c 0)) (commSlot_of _ (k0_off2_eq c)) (sem_of_5 _ rfl) (sem_of_6 _ (k0_off1_eq c)) ?_
  refine rs_step P A K c 1 (k0_dev17_eq c) (partChunk_of _ (k0_off3_eq c 1)) (commSlot_of _ (k0_off2_eq c)) (sem_of_5 _ rfl) (sem_of_6 _ (k0_off1_eq c)) ?_
  refine rs_step P A K c 2 (k0_dev18_eq c) (partChunk_of _ (k0_off3_eq c 2)) (commSlot_of _ (k0_off2_eq c)) (sem_of_5 _ rfl) (sem_of_6 _ (k0_off1_eq c)) ?_
  exact hk _ trivial

theorem part10_run {v2 x : BitVec 32} : Stretch P A K c (onBufs (k0_part10 (F := F)) c v2 x) (fun _ => True) (RsSend P c 3) (RsSend P c 6) := by
  intro β κ Q R hk
  rw [k0_part10_eq_skeleton]
  unfold onBufs k0_part10_skel
  simp only [Prog.lift, Prog.bind_op, Prog.bind_ret, Prog.pure_eq_ret]
  refine rs_step P A K c 3 (k0_dev19_eq c) (partChunk_of _ (k0_off3_eq c 3)) (commSlot_of _ (k0_off2_eq c)) (sem_of_5 _ rfl) (sem_of_6 _ (k0_off1_eq c)) ?_
  refine rs_step P A K c 4 (k0_dev20_eq c) (partChunk_of _ (k0_off3_eq c 4)) (commSlot_of _ (k0_off2_eq c)) (sem_of_5 _ rfl) (sem_of_6 _ (k0_off1_eq c)) ?_
  refine rs_step P A K c 5 (k0_dev21_eq c) (partChunk_of _ (k0_off3_eq c 5)) (commSlot_of _ (k0_off2_eq c)) (sem_of_5 _ rfl) (sem_of_6 _ (k0_off1_eq c)) ?_
  exact hk _ trivial

theorem part11_run {v2 x y : BitVec 32} : Stretch P A K c (onBufs (k0_part11 (F := F)) c v2 x y) (fun _ => True) (RsSend P c 6) (RsSend P c 8) := by
  intro β κ Q R hk
  rw [k0_part11_eq_skeleton]
  unfold onBufs k0_part11_skel
  simp only [Prog.lift, Prog.bind_op, Prog.bind_ret, Prog.pure_eq_ret]
  refine rs_step P A K c 6 (k0_dev22_eq c) (partChunk_of _ (k0_off3_eq c 6)) (commSlot_of _ (k0_off2_eq c)) (sem_of_5 _ rfl) (sem_of_6 _ (k0_off1_eq c)) ?_
  refine rs_step P A K c 7 (k0_dev23_eq c) (partChunk_of _ (k0_off3_eq c 7)) (commSlot_of _ (k0_off2_eq c)) (sem_of_5 _ rfl) (sem_of_6 _ (k0_off1_eq c)) ?_
  exact hk _ trivial

theorem part12_run {v2 : BitVec 32} : Stretch P A K c (onBufs (k0_part12 (F := F)) c v2) (fun _ => True) (RsSend P c 8) (RsSend P c 11) := by
  intro β κ Q R hk
  rw [k0_part12_eq_skeleton]
  unfold onBufs k0_part12_skel
  simp only [Prog.lift, Prog.bind_op, Prog.bind_ret, Prog.pure_eq_ret]
  refine rs_step P A K c 8 (k0_dev24_eq c) (partChunk_of _ (k0_off3_eq c 8)) (commSlot_of _ (k0_off2_eq c)) (sem_of_5 _ rfl) (sem_of_6 _ (k0_off1_eq c)) ?_
  refine rs_step P A K c 9 (k0_dev25_eq c) (partChunk_of _ (k0_off3_eq c 9)) (commSlot_of _ (k0_off2_eq c)) (sem_of_5 _ rfl) (sem_of_6 _ (k0_off1_eq c)) ?_
  refine rs_step P A K c 10 (k0_dev26_eq c) (partChunk_of _ (k0_off3_eq c 10)) (commSlot_of _ (k0_off2_eq c)) (sem_of_5 _ rfl) (sem_of_6 _ (k0_off1_eq c)) ?_
  exact hk _ trivial

theorem part13_run {v2 : BitVec 32} : Stretch P A K c (onBufs (k0_part13 (F := F)) c v2) (fun _ => True) (RsSend P c 11) (RsSend P c 14) := by
  intro β κ Q R hk
  rw [k0_part13_eq_skeleton]
  unfold onBufs k0_part13_skel
  simp only [Prog.lift, Prog.bind_op, Prog.bind_ret, Prog.pure_eq_ret]
  refine rs_step P A K c 11 (k0_dev27_eq c) (partChunk_of _ (k0_off3_eq c 11)) (commSlot_of _ (k0_off2_eq c)) (sem_of_5 _ rfl) (sem_of_6 _ (k0_off1_eq c)) ?_
  refine rs_step P A K c 12 (k0_dev28_eq c) (partChunk_of _ (k0_off3_eq c 12)) (commSlot_of _ (k0_off2_eq c)) (sem_of_5 _ rfl) (sem_of_6 _ (k0_off1_eq c)) ?_
  refine rs_step P A K c 13 (k0_dev29_eq c) (partChunk_of _ (k0_off3_eq c 13)) (commSlot_of _ (k0_off2_eq c)) (sem_of_5 _ rfl) (sem_of_6 _ (k0_off1_eq c)) ?_
  exact hk _ trivial

/-! ## The waits -/

/-- What is needed to wait on the fifteen cells of a family, and what the waits leave. -/
def Todo (f : Fin 4) (ix : Fin 15 → Fin 16) : sProp 𝕄 :=
  bigSep Finset.univ fun r => iprop(cred (tallyAt (dcell c f (ix r)) () N) ∗ atPos ER (dcell c f (ix r)) 0 ∅ 0)
def Done (f : Fin 4) (ix : Fin 15 → Fin 16) : sProp 𝕄 :=
  bigSep Finset.univ fun r => iprop(copyPay P A c f (ix r) ∗ atPos ER (dcell c f (ix r)) 1 ∅ 0)
/-- The credits for the departures of a family, and the positions of its cells. -/
def Gone (f : Fin 4) : sProp 𝕄 := bigSep Finset.univ fun r : Fin 15 => cred (tallyAt (dcell c f (dist r)) () N)
def Posn (f : Fin 4) : sProp 𝕄 := bigSep Finset.univ fun r : Fin 15 => atPos ER (dcell c f (dist r)) 0 ∅ 0

theorem todo_of_gone (f : Fin 4) : iprop(Gone c f ∗ Posn c f) ⊢ (Todo c f dist : sProp 𝕄) := Entails.of_eq (bigSep_sep _ _ _).symm

/-- The waits start when the copies are all sent, and when they are over they leave what they waited for. -/
theorem waiting_start (f : Fin 4) (ix : Fin 15 → Fin 16) (d : ℕ) : iprop(Todo c f ix ∗ ∃ W, owes (c : Thread nD τ) (owed c 15 15 d) W) ⊢ Waiting P A c f ix d 0 := by
  unfold Todo Waiting
  rw [from_zero, upto_zero, bigSep_empty]
  iintro ⟨HT, HO⟩
  isplitl [HT]; · iexact HT
  isplitr; · iempintro
  iexact HO
theorem waiting_end (f : Fin 4) (ix : Fin 15 → Fin 16) (d : ℕ) : Waiting P A c f ix d ((14 : Fin 15).val + 1) ⊢ iprop(Done P A c f ix ∗ ∃ W, owes (c : Thread nD τ) (owed c 15 15 d) W) := by
  show Waiting P A c f ix d 15 ⊢ _
  unfold Done Waiting
  rw [from_end, upto_end, bigSep_empty]
  iintro ⟨-, HD, HO⟩
  isplitl [HD]; · iexact HD
  iexact HO
theorem sent_rs : RsSend P c ((14 : Fin 15).val + 1) ⊢ iprop(Gone c 0 ∗ ∃ W, owes (c : Thread nD τ) (owed c 15 15 0) W) := by
  show RsSend P c 15 ⊢ _
  unfold Gone RsSend
  rw [from_end, upto_end, bigSep_empty]
  iintro ⟨-, HD, HO⟩
  isplitl [HD]; · iexact HD
  iexact HO
theorem sent_ag : AgSend A c ((14 : Fin 15).val + 1) ⊢ iprop(Gone c 2 ∗ ∃ W, owes (c : Thread nD τ) (owed c 15 15 15) W) := by
  show AgSend A c 15 ⊢ _
  unfold Gone AgSend
  rw [from_end, upto_end, bigSep_empty]
  iintro ⟨-, HD, HO⟩
  isplitl [HD]; · iexact HD
  iexact HO

/-- The four kinds of wait. -/
theorem rs_recv {α : Type} {Q : α → sProp 𝕄} {R : sProp 𝕄} (r : Fin 15) {s : DmaSem sig} {src dst : Memref sig .tc .vmem S32x512 .bf16} (hs : s = dsem 1 (peer c r)) (hN : dst.view.dmaCredit = N)
    {hw hw'} {k : PUnit → Prog (TpuEff nD τ sig (Elt F) Λ₀ .tc) α} (hk : iprop(ctx P A K c ∗ R ∗ Waiting P A c 1 (peer c) 0 (r.val + 1)) ⊢ Run c (k ⟨⟩) Q) :
    iprop(ctx P A K c ∗ R ∗ Waiting P A c 1 (peer c) 0 r.val) ⊢ Run c (.op (.waitDma2 s src dst hw hw') k) Q :=
  wait_step P A K c 1 (peer c) 0 (peer_ne c) (mayWait_rs c) r hs hN hk
theorem ag_recv {α : Type} {Q : α → sProp 𝕄} {R : sProp 𝕄} (r : Fin 15) {s : DmaSem sig} {src dst : Memref sig .tc .vmem S32x512 .bf16} (hs : s = dsem 3 (peer c r)) (hN : dst.view.dmaCredit = N)
    {hw hw'} {k : PUnit → Prog (TpuEff nD τ sig (Elt F) Λ₀ .tc) α} (hk : iprop(ctx P A K c ∗ R ∗ Waiting P A c 3 (peer c) 15 (r.val + 1)) ⊢ Run c (k ⟨⟩) Q) :
    iprop(ctx P A K c ∗ R ∗ Waiting P A c 3 (peer c) 15 r.val) ⊢ Run c (.op (.waitDma2 s src dst hw hw') k) Q :=
  wait_step P A K c 3 (peer c) 15 (peer_ne c) (fun _ => mayWait_free c _) r hs hN hk
theorem rs_left {α : Type} {Q : α → sProp 𝕄} {R : sProp 𝕄} (r : Fin 15) {s : DmaSem sig} {src dst : Memref sig .tc .vmem S32x512 .bf16} (hs : s = dsem 0 (dist r)) (hN : dst.view.dmaCredit = N)
    {hw hw'} {k : PUnit → Prog (TpuEff nD τ sig (Elt F) Λ₀ .tc) α} (hk : iprop(ctx P A K c ∗ R ∗ Waiting P A c 0 dist 15 (r.val + 1)) ⊢ Run c (k ⟨⟩) Q) :
    iprop(ctx P A K c ∗ R ∗ Waiting P A c 0 dist 15 r.val) ⊢ Run c (.op (.waitDma2 s src dst hw hw') k) Q :=
  wait_step P A K c 0 dist 15 (dist_ne c) (fun _ => mayWait_free c _) r hs hN hk
theorem ag_left {α : Type} {Q : α → sProp 𝕄} {R : sProp 𝕄} (r : Fin 15) {s : DmaSem sig} {src dst : Memref sig .tc .vmem S32x512 .bf16} (hs : s = dsem 2 (dist r)) (hN : dst.view.dmaCredit = N)
    {hw hw'} {k : PUnit → Prog (TpuEff nD τ sig (Elt F) Λ₀ .tc) α} (hk : iprop(ctx P A K c ∗ R ∗ Waiting P A c 2 dist 15 (r.val + 1)) ⊢ Run c (k ⟨⟩) Q) :
    iprop(ctx P A K c ∗ R ∗ Waiting P A c 2 dist 15 r.val) ⊢ Run c (.op (.waitDma2 s src dst hw hw') k) Q :=
  wait_step P A K c 2 dist 15 (dist_ne' c) (fun _ => mayWait_free c _) r hs hN hk

/-- The last copy of the reduce-scatter, zeros in the own slot, the first landing. -/
theorem part14_run {v2 x : BitVec 32} : Stretch P A K c (onBufs (k0_part14 (F := F)) c v2 x) (fun _ => True)
    iprop(((∃ f, commPt c c f) ∗ Todo c 1 (peer c)) ∗ RsSend P c 14)
    iprop((commPt c c (landed P c) ∗ Gone c 0) ∗ Waiting P A c 1 (peer c) 0 1) := by
  intro β κ Q R hk
  rw [k0_part14_eq_skeleton]
  unfold onBufs k0_part14_skel
  simp only [Prog.lift, Prog.bind_op, Prog.bind_ret, Prog.pure_eq_ret]
  refine (sep_regroup _ _ _ _).trans ?_
  refine rs_step P A K c 14 (k0_dev30_eq c) (partChunk_of _ (k0_off3_eq c 14)) (commSlot_of _ (k0_off2_eq c)) (sem_of_5 _ rfl) (sem_of_6 _ (k0_off1_eq c)) ?_
  iintro ⟨#HC, ⟨HR, ⟨%f, Hf⟩, HT⟩, HS⟩
  ihave ⟨HG, HO⟩ := (sent_rs P c) $$ HS
  iapply (load_part (F := F) c (comm_access c (k0_off4_eq c)).subset) $$ Hf
  iintro Hf %x
  iapply (store_part (F := F) c (g := landed P c) (comm_access c (k0_off4_eq c)).subset (put_slot c P f (k0_off4_eq c))) $$ Hf
  iintro Hf
  iapply (rs_recv (F := F) P A K c (R := iprop(R ∗ commPt c c (landed P c) ∗ Gone c 0)) 0 (sem_of_6 _ (k0_off5_eq c 0)) (by rfl) ((sep_assoc_four _ _ _ _).trans (hk _ trivial)))
  isplitr; · iexact HC
  isplitl [HR Hf HG]
  · isplitl [HR]; · iexact HR
    isplitl [Hf]; · iexact Hf
    iexact HG
  iapply (waiting_start P A c 1 (peer c) 0)
  isplitl [HT]; · iexact HT
  iexact HO

theorem part15_run {v2 : BitVec 32} : Stretch P A K c (onBufs (k0_part15 (F := F)) c v2) (fun _ => True) (Waiting P A c 1 (peer c) 0 1) (Waiting P A c 1 (peer c) 0 5) := by
  intro β κ Q R hk
  rw [k0_part15_eq_skeleton]
  unfold onBufs k0_part15_skel
  simp only [Prog.lift, Prog.bind_op, Prog.bind_ret, Prog.pure_eq_ret]
  refine rs_recv P A K c 1 (sem_of_6 _ (k0_off5_eq c 1)) (by rfl) ?_
  refine rs_recv P A K c 2 (sem_of_6 _ (k0_off5_eq c 2)) (by rfl) ?_
  refine rs_recv P A K c 3 (sem_of_6 _ (k0_off5_eq c 3)) (by rfl) ?_
  refine rs_recv P A K c 4 (sem_of_6 _ (k0_off5_eq c 4)) (by rfl) ?_
  exact hk _ trivial

theorem part16_run {v2 x : BitVec 32} : Stretch P A K c (onBufs (k0_part16 (F := F)) c v2 x) (fun _ => True) (Waiting P A c 1 (peer c) 0 5) (Waiting P A c 1 (peer c) 0 8) := by
  intro β κ Q R hk
  rw [k0_part16_eq_skeleton]
  unfold onBufs k0_part16_skel
  simp only [Prog.lift, Prog.bind_op, Prog.bind_ret, Prog.pure_eq_ret]
  refine rs_recv P A K c 5 (sem_of_6 _ (k0_off5_eq c 5)) (by rfl) ?_
  refine rs_recv P A K c 6 (sem_of_6 _ (k0_off5_eq c 6)) (by rfl) ?_
  refine rs_recv P A K c 7 (sem_of_6 _ (k0_off5_eq c 7)) (by rfl) ?_
  exact hk _ trivial

theorem part17_run {v2 : BitVec 32} : Stretch P A K c (onBufs (k0_part17 (F := F)) c v2) (fun _ => True) (Waiting P A c 1 (peer c) 0 8) (Waiting P A c 1 (peer c) 0 11) := by
  intro β κ Q R hk
  rw [k0_part17_eq_skeleton]
  unfold onBufs k0_part17_skel
  simp only [Prog.lift, Prog.bind_op, Prog.bind_ret, Prog.pure_eq_ret]
  refine rs_recv P A K c 8 (sem_of_6 _ (k0_off5_eq c 8)) (by rfl) ?_
  refine rs_recv P A K c 9 (sem_of_6 _ (k0_off5_eq c 9)) (by rfl) ?_
  refine rs_recv P A K c 10 (sem_of_6 _ (k0_off5_eq c 10)) (by rfl) ?_
  exact hk _ trivial

theorem part18_run {v2 x : BitVec 32} : Stretch P A K c (onBufs (k0_part18 (F := F)) c v2 x) (fun _ => True) (Waiting P A c 1 (peer c) 0 11) (Waiting P A c 1 (peer c) 0 14) := by
  intro β κ Q R hk
  rw [k0_part18_eq_skeleton]
  unfold onBufs k0_part18_skel
  simp only [Prog.lift, Prog.bind_op, Prog.bind_ret, Prog.pure_eq_ret]
  refine rs_recv P A K c 11 (sem_of_6 _ (k0_off5_eq c 11)) (by rfl) ?_
  refine rs_recv P A K c 12 (sem_of_6 _ (k0_off5_eq c 12)) (by rfl) ?_
  refine rs_recv P A K c 13 (sem_of_6 _ (k0_off5_eq c 13)) (by rfl) ?_
  exact hk _ trivial

/-! ## The device's own chunk -/

/-- The landing buffer put together: every peer's slot and the own one. -/
theorem landed_whole : iprop(commPt c c (landed P c) ∗ Done P A c 1 (peer c))
    ⊢ iprop(((c : Thread nD τ).loc cc0_scratch2 ↦{fullShare} landed P c) ∗ bigSep Finset.univ fun r : Fin 15 => atPos ER (dcell c 1 (peer c r)) 1 ∅ 0) := by
  unfold Done
  rw [comm_slots, around c]
  iintro ⟨Hc, HD⟩
  ihave ⟨Hp, Ha⟩ := (unzip_sep Finset.univ (fun r : Fin 15 => copyPay P A c 1 (peer c r)) (fun r : Fin 15 => atPos ER (dcell c 1 (peer c r)) 1 ∅ 0)) $$ HD
  isplitl [Hc Hp]
  · isplitl [Hc]; · iexact Hc
    iexact Hp
  iexact Ha

/-- What each copy of the all-gather needs beside its source. -/
def Later : sProp 𝕄 := bigSep Finset.univ fun r : Fin 15 => iprop((∃ f, gathPt (peer c r) c fullShare f) ∗ reached ER (dcell (peer c r) 3 c) 0
  ∗ dutyTok ER (dcell c 2 (dist r)) 0 (0 : Fin 16) ∗ dutyTok ER (dcell (peer c r) 3 c) 0 (0 : Fin 16))

/-- The finished chunk is lent out fifteen times. -/
theorem ag_start : iprop(gathPt c c fullShare A ∗ Later c ∗ ∃ W, owes (c : Thread nD τ) (owed c 15 15 0) W) ⊢ iprop(gathPt c c (shareDrop fullShare 15) A ∗ AgSend A c 0) := by
  unfold AgSend Later
  rw [from_zero, upto_zero, bigSep_empty]
  iintro ⟨Hg, HL, HO⟩
  ihave ⟨Hr, Hs⟩ := (pointsTo_toks_split fullShare 15) $$ Hg
  isplitl [Hr]; · iexact Hr
  isplitl [Hs HL]
  · iapply (zip_sep Finset.univ (fun r : Fin 15 => gathPt c c (shareTokN fullShare r.val) A) (fun r : Fin 15 => iprop((∃ f, gathPt (peer c r) c fullShare f) ∗ reached ER (dcell (peer c r) 3 c) 0
      ∗ dutyTok ER (dcell c 2 (dist r)) 0 (0 : Fin 16) ∗ dutyTok ER (dcell (peer c r) 3 c) 0 (0 : Fin 16))))
    isplitl [Hs]; · iexact Hs
    iexact HL
  isplitr; · iempintro
  iexact HO

/-- The last landing, the sum over the slots, and the first copy of the finished chunk. -/
theorem part19_run (a : Vec F S512x512 .f32)
    (hA : ∀ (f : GathBuf F), ∀ i ∈ gathSet c, put (s := S512x512) f ![32 * c.val, 0] S32x512.size
      (k0_pay29 (window (s := S512x512) a ![32 * c.val, 0] S32x512.size (inb_rows c)) (landed P c)) i = A i) {v2 : BitVec 32} :
    Stretch P A K c (onBufs (k0_part19 (F := F)) c v2) (fun _ => True)
      iprop((accPt c a ∗ commPt c c (landed P c) ∗ (∃ f, gathPt c c fullShare f) ∗ Later c) ∗ Waiting P A c 1 (peer c) 0 14)
      iprop((accPt c a ∗ ((c : Thread nD τ).loc cc0_scratch2 ↦{fullShare} landed P c) ∗ (bigSep Finset.univ fun r : Fin 15 => atPos ER (dcell c 1 (peer c r)) 1 ∅ 0)
        ∗ gathPt c c (shareDrop fullShare 15) A) ∗ AgSend A c 1) := by
  intro β κ Q R hk
  rw [k0_part19_eq_skeleton]
  unfold onBufs k0_part19_skel
  simp only [Prog.lift, Prog.bind_op, Prog.bind_ret, Prog.pure_eq_ret]
  refine (sep_regroup _ _ _ _).trans ?_
  refine rs_recv P A K c 14 (sem_of_6 _ (k0_off5_eq c 14)) (by rfl) ?_
  iintro ⟨#HC, ⟨HR, Ha, Hc, ⟨%f, Hg⟩, HL⟩, HW⟩
  ihave ⟨HD, HO⟩ := (waiting_end P A c 1 (peer c) 0) $$ HW
  ihave ⟨Hc, Hat⟩ := (landed_whole P A c) $$ [Hc HD]
  · isplitl [Hc]; · iexact Hc
    iexact HD
  iapply (load_win (F := F) c) $$ Ha
  rw [window_off (s := S512x512) a (k0_off7_eq c) _ (inb_rows c)]
  iintro Ha
  iapply (load_win (F := F) c) $$ Hc
  rw [window_all (s := S16x32x512) (landed P c)]
  iintro Hc
  iapply (load_part (F := F) c (gath_access c (k0_off7_eq c)).subset) $$ Hg
  iintro Hg %x
  iapply (store_part (F := F) c (g := A) (gath_access c (k0_off7_eq c)).subset (by rw [k0_off7_eq c]; exact hA f)) $$ Hg
  iintro Hg
  ihave ⟨Hg, HS⟩ := (ag_start A c) $$ [Hg HL HO]
  · isplitl [Hg]; · iexact Hg
    isplitl [HL]; · iexact HL
    iexact HO
  iapply (ag_step (F := F) P A K c (Q := Q) (k := fun _ => κ _) (R := iprop(R ∗ accPt c a ∗ ((c : Thread nD τ).loc cc0_scratch2 ↦{fullShare} landed P c) ∗ (bigSep Finset.univ fun r : Fin 15 => atPos ER (dcell c 1 (peer c r)) 1 ∅ 0)
        ∗ gathPt c c (shareDrop fullShare 15) A)) 0 (k0_dev31_eq c) (gathChunk_of _ (k0_off8_eq c)) (gathChunk_of _ (k0_off8_eq c)) (sem_of_7 _ rfl) (sem_of_8 _ (k0_off1_eq c)) ((sep_assoc_four _ _ _ _).trans (hk _ trivial)))
  isplitr; · iexact HC
  isplitl [HR Ha Hc Hat Hg]
  · isplitl [HR]; · iexact HR
    isplitl [Ha]; · iexact Ha
    isplitl [Hc]; · iexact Hc
    isplitl [Hat]; · iexact Hat
    iexact Hg
  iexact HS

theorem part20_run {v2 x y : BitVec 32} : Stretch P A K c (onBufs (k0_part20 (F := F)) c v2 x y) (fun _ => True)
    (AgSend A c 1)
    (AgSend A c 4) := by
  intro β κ Q R hk
  rw [k0_part20_eq_skeleton]
  unfold onBufs k0_part20_skel
  simp only [Prog.lift, Prog.bind_op, Prog.bind_ret, Prog.pure_eq_ret]
  refine ag_step P A K c 1 (k0_dev32_eq c) (gathChunk_of _ (k0_off8_eq c)) (gathChunk_of _ (k0_off8_eq c)) (sem_of_7 _ rfl) (sem_of_8 _ (k0_off1_eq c)) ?_
  refine ag_step P A K c 2 (k0_dev33_eq c) (gathChunk_of _ (k0_off8_eq c)) (gathChunk_of _ (k0_off8_eq c)) (sem_of_7 _ rfl) (sem_of_8 _ (k0_off1_eq c)) ?_
  refine ag_step P A K c 3 (k0_dev34_eq c) (gathChunk_of _ (k0_off8_eq c)) (gathChunk_of _ (k0_off8_eq c)) (sem_of_7 _ rfl) (sem_of_8 _ (k0_off1_eq c)) ?_
  exact hk _ trivial

theorem part21_run {v2 x : BitVec 32} : Stretch P A K c (onBufs (k0_part21 (F := F)) c v2 x) (fun _ => True)
    (AgSend A c 4)
    (AgSend A c 6) := by
  intro β κ Q R hk
  rw [k0_part21_eq_skeleton]
  unfold onBufs k0_part21_skel
  simp only [Prog.lift, Prog.bind_op, Prog.bind_ret, Prog.pure_eq_ret]
  refine ag_step P A K c 4 (k0_dev35_eq c) (gathChunk_of _ (k0_off8_eq c)) (gathChunk_of _ (k0_off8_eq c)) (sem_of_7 _ rfl) (sem_of_8 _ (k0_off1_eq c)) ?_
  refine ag_step P A K c 5 (k0_dev36_eq c) (gathChunk_of _ (k0_off8_eq c)) (gathChunk_of _ (k0_off8_eq c)) (sem_of_7 _ rfl) (sem_of_8 _ (k0_off1_eq c)) ?_
  exact hk _ trivial

theorem part22_run {v2 : BitVec 32} : Stretch P A K c (onBufs (k0_part22 (F := F)) c v2) (fun _ => True)
    (AgSend A c 6)
    (AgSend A c 9) := by
  intro β κ Q R hk
  rw [k0_part22_eq_skeleton]
  unfold onBufs k0_part22_skel
  simp only [Prog.lift, Prog.bind_op, Prog.bind_ret, Prog.pure_eq_ret]
  refine ag_step P A K c 6 (k0_dev37_eq c) (gathChunk_of _ (k0_off8_eq c)) (gathChunk_of _ (k0_off8_eq c)) (sem_of_7 _ rfl) (sem_of_8 _ (k0_off1_eq c)) ?_
  refine ag_step P A K c 7 (k0_dev38_eq c) (gathChunk_of _ (k0_off8_eq c)) (gathChunk_of _ (k0_off8_eq c)) (sem_of_7 _ rfl) (sem_of_8 _ (k0_off1_eq c)) ?_
  refine ag_step P A K c 8 (k0_dev39_eq c) (gathChunk_of _ (k0_off8_eq c)) (gathChunk_of _ (k0_off8_eq c)) (sem_of_7 _ rfl) (sem_of_8 _ (k0_off1_eq c)) ?_
  exact hk _ trivial

theorem part23_run {v2 x : BitVec 32} : Stretch P A K c (onBufs (k0_part23 (F := F)) c v2 x) (fun _ => True)
    (AgSend A c 9)
    (AgSend A c 12) := by
  intro β κ Q R hk
  rw [k0_part23_eq_skeleton]
  unfold onBufs k0_part23_skel
  simp only [Prog.lift, Prog.bind_op, Prog.bind_ret, Prog.pure_eq_ret]
  refine ag_step P A K c 9 (k0_dev40_eq c) (gathChunk_of _ (k0_off8_eq c)) (gathChunk_of _ (k0_off8_eq c)) (sem_of_7 _ rfl) (sem_of_8 _ (k0_off1_eq c)) ?_
  refine ag_step P A K c 10 (k0_dev41_eq c) (gathChunk_of _ (k0_off8_eq c)) (gathChunk_of _ (k0_off8_eq c)) (sem_of_7 _ rfl) (sem_of_8 _ (k0_off1_eq c)) ?_
  refine ag_step P A K c 11 (k0_dev42_eq c) (gathChunk_of _ (k0_off8_eq c)) (gathChunk_of _ (k0_off8_eq c)) (sem_of_7 _ rfl) (sem_of_8 _ (k0_off1_eq c)) ?_
  exact hk _ trivial

theorem part24_run {v2 x y : BitVec 32} : Stretch P A K c (onBufs (k0_part24 (F := F)) c v2 x y) (fun _ => True)
    (AgSend A c 12)
    (AgSend A c 14) := by
  intro β κ Q R hk
  rw [k0_part24_eq_skeleton]
  unfold onBufs k0_part24_skel
  simp only [Prog.lift, Prog.bind_op, Prog.bind_ret, Prog.pure_eq_ret]
  refine ag_step P A K c 12 (k0_dev43_eq c) (gathChunk_of _ (k0_off8_eq c)) (gathChunk_of _ (k0_off8_eq c)) (sem_of_7 _ rfl) (sem_of_8 _ (k0_off1_eq c)) ?_
  refine ag_step P A K c 13 (k0_dev44_eq c) (gathChunk_of _ (k0_off8_eq c)) (gathChunk_of _ (k0_off8_eq c)) (sem_of_7 _ rfl) (sem_of_8 _ (k0_off1_eq c)) ?_
  exact hk _ trivial

/-! ## The waits for the finished chunks and for the departures -/

/-- Between two phases the resources change hands. -/
theorem agrees_ag {R : sProp 𝕄} : iprop(ctx P A K c ∗ (R ∗ Todo c 3 (peer c)) ∗ AgSend A c ((14 : Fin 15).val + 1)) ⊢ iprop(ctx P A K c ∗ (R ∗ Gone c 2) ∗ Waiting P A c 3 (peer c) 15 ((0 : Fin 15).val)) := by
  iintro ⟨HC, ⟨HR, HT⟩, HS⟩
  ihave ⟨HG, HO⟩ := (sent_ag A c) $$ HS
  isplitl [HC]; · iexact HC
  isplitl [HR HG]
  · isplitl [HR]; · iexact HR
    iexact HG
  iapply (waiting_start P A c 3 (peer c) 15)
  isplitl [HT]; · iexact HT
  iexact HO
theorem next_wait {R : sProp 𝕄} (f : Fin 4) (ix : Fin 15 → Fin 16) (f' : Fin 4) : iprop(ctx P A K c ∗ (R ∗ Gone c f' ∗ Posn c f') ∗ Waiting P A c f ix 15 ((14 : Fin 15).val + 1))
    ⊢ iprop(ctx P A K c ∗ (R ∗ Done P A c f ix) ∗ Waiting P A c f' dist 15 ((0 : Fin 15).val)) := by
  iintro ⟨HC, ⟨HR, HG⟩, HW⟩
  ihave ⟨HD, HO⟩ := (waiting_end P A c f ix 15) $$ HW
  ihave HT := (todo_of_gone c f') $$ HG
  isplitl [HC]; · iexact HC
  isplitl [HR HD]
  · isplitl [HR]; · iexact HR
    iexact HD
  iapply (waiting_start P A c f' dist 15)
  isplitl [HT]; · iexact HT
  iexact HO

/-- The gather buffer put together: every peer's chunk, and the own one from its shares. -/
theorem gathered_whole : iprop(Done P A c 3 (peer c) ∗ Done P A c 2 dist ∗ gathPt c c (shareDrop fullShare 15) A)
    ⊢ iprop(((c : Thread nD τ).loc cc0_scratch3 ↦{fullShare} A) ∗ (bigSep Finset.univ fun r : Fin 15 => atPos ER (dcell c 3 (peer c r)) 1 ∅ 0)
      ∗ bigSep Finset.univ fun r : Fin 15 => atPos ER (dcell c 2 (dist r)) 1 ∅ 0) := by
  unfold Done
  rw [gath_chunks, around c]
  iintro ⟨H3, H2, Hg⟩
  ihave ⟨Hp, Ha3⟩ := (unzip_sep Finset.univ (fun r : Fin 15 => copyPay P A c 3 (peer c r)) (fun r : Fin 15 => atPos ER (dcell c 3 (peer c r)) 1 ∅ 0)) $$ H3
  ihave ⟨Hs, Ha2⟩ := (unzip_sep Finset.univ (fun r : Fin 15 => copyPay P A c 2 (dist r)) (fun r : Fin 15 => atPos ER (dcell c 2 (dist r)) 1 ∅ 0)) $$ H2
  isplitl [Hg Hs Hp]
  · isplitl [Hg Hs]
    · iapply (pointsTo_toks_join fullShare 15)
      isplitl [Hg]; · iexact Hg
      have e : (bigSep Finset.univ fun r : Fin 15 => copyPay P A c 2 (dist r)) ⊢ (bigSep Finset.univ fun r : Fin 15 => gathPt c c (shareTokN fullShare r.val) A) :=
        bigSep_mono fun r _ => Entails.of_eq (copyPay_share P A c r)
      iapply e; iexact Hs
    iexact Hp
  isplitl [Ha3]; · iexact Ha3
  iexact Ha2

/-- The last copy of a finished chunk and the first landings. -/
theorem part25_run {v2 : BitVec 32} : Stretch P A K c (onBufs (k0_part25 (F := F)) c v2) (fun _ => True)
    iprop(Todo c 3 (peer c) ∗ AgSend A c 14)
    iprop(Gone c 2 ∗ Waiting P A c 3 (peer c) 15 3) := by
  intro β κ Q R hk
  rw [k0_part25_eq_skeleton]
  unfold onBufs k0_part25_skel
  simp only [Prog.lift, Prog.bind_op, Prog.bind_ret, Prog.pure_eq_ret]
  refine (sep_regroup _ _ _ _).trans ?_
  refine ag_step P A K c 14 (k0_dev45_eq c) (gathChunk_of _ (k0_off8_eq c)) (gathChunk_of _ (k0_off8_eq c)) (sem_of_7 _ rfl) (sem_of_8 _ (k0_off1_eq c)) ?_
  refine (agrees_ag P A K c).trans ?_
  refine ag_recv P A K c 0 (sem_of_8 _ (k0_off5_eq c 0)) (by rfl) ?_
  refine ag_recv P A K c 1 (sem_of_8 _ (k0_off5_eq c 1)) (by rfl) ?_
  refine ag_recv P A K c 2 (sem_of_8 _ (k0_off5_eq c 2)) (by rfl) ?_
  exact (sep_assoc_four _ _ _ _).trans (hk _ trivial)

theorem part26_run {v2 x : BitVec 32} : Stretch P A K c (onBufs (k0_part26 (F := F)) c v2 x) (fun _ => True)
    (Waiting P A c 3 (peer c) 15 3)
    (Waiting P A c 3 (peer c) 15 6) := by
  intro β κ Q R hk
  rw [k0_part26_eq_skeleton]
  unfold onBufs k0_part26_skel
  simp only [Prog.lift, Prog.bind_op, Prog.bind_ret, Prog.pure_eq_ret]
  refine ag_recv P A K c 3 (sem_of_8 _ (k0_off5_eq c 3)) (by rfl) ?_
  refine ag_recv P A K c 4 (sem_of_8 _ (k0_off5_eq c 4)) (by rfl) ?_
  refine ag_recv P A K c 5 (sem_of_8 _ (k0_off5_eq c 5)) (by rfl) ?_
  exact hk _ trivial

theorem part27_run {v2 x y : BitVec 32} : Stretch P A K c (onBufs (k0_part27 (F := F)) c v2 x y) (fun _ => True)
    (Waiting P A c 3 (peer c) 15 6)
    (Waiting P A c 3 (peer c) 15 9) := by
  intro β κ Q R hk
  rw [k0_part27_eq_skeleton]
  unfold onBufs k0_part27_skel
  simp only [Prog.lift, Prog.bind_op, Prog.bind_ret, Prog.pure_eq_ret]
  refine ag_recv P A K c 6 (sem_of_8 _ (k0_off5_eq c 6)) (by rfl) ?_
  refine ag_recv P A K c 7 (sem_of_8 _ (k0_off5_eq c 7)) (by rfl) ?_
  refine ag_recv P A K c 8 (sem_of_8 _ (k0_off5_eq c 8)) (by rfl) ?_
  exact hk _ trivial

theorem part28_run {v2 x : BitVec 32} : Stretch P A K c (onBufs (k0_part28 (F := F)) c v2 x) (fun _ => True)
    (Waiting P A c 3 (peer c) 15 9)
    (Waiting P A c 3 (peer c) 15 12) := by
  intro β κ Q R hk
  rw [k0_part28_eq_skeleton]
  unfold onBufs k0_part28_skel
  simp only [Prog.lift, Prog.bind_op, Prog.bind_ret, Prog.pure_eq_ret]
  refine ag_recv P A K c 9 (sem_of_8 _ (k0_off5_eq c 9)) (by rfl) ?_
  refine ag_recv P A K c 10 (sem_of_8 _ (k0_off5_eq c 10)) (by rfl) ?_
  refine ag_recv P A K c 11 (sem_of_8 _ (k0_off5_eq c 11)) (by rfl) ?_
  exact hk _ trivial

theorem part29_run {v2 : BitVec 32} : Stretch P A K c (onBufs (k0_part29 (F := F)) c v2) (fun _ => True)
    iprop((Gone c 0 ∗ Posn c 0) ∗ Waiting P A c 3 (peer c) 15 12)
    iprop(Done P A c 3 (peer c) ∗ Waiting P A c 0 dist 15 1) := by
  intro β κ Q R hk
  rw [k0_part29_eq_skeleton]
  unfold onBufs k0_part29_skel
  simp only [Prog.lift, Prog.bind_op, Prog.bind_ret, Prog.pure_eq_ret]
  refine (sep_regroup _ _ _ _).trans ?_
  refine ag_recv P A K c 12 (sem_of_8 _ (k0_off5_eq c 12)) (by rfl) ?_
  refine ag_recv P A K c 13 (sem_of_8 _ (k0_off5_eq c 13)) (by rfl) ?_
  refine ag_recv P A K c 14 (sem_of_8 _ (k0_off5_eq c 14)) (by rfl) ?_
  refine (next_wait P A K c 3 (peer c) 0).trans ?_
  refine rs_left P A K c 0 (sem_of_5 _ rfl) (by rfl) ?_
  exact (sep_assoc_four _ _ _ _).trans (hk _ trivial)

theorem part30_run : Stretch P A K c (onBufs (k0_part30 (F := F)) c) (fun _ => True)
    (Waiting P A c 0 dist 15 1)
    (Waiting P A c 0 dist 15 6) := by
  intro β κ Q R hk
  rw [k0_part30_eq_skeleton]
  unfold onBufs k0_part30_skel
  simp only [Prog.lift, Prog.bind_op, Prog.bind_ret, Prog.pure_eq_ret]
  refine rs_left P A K c 1 (sem_of_5 _ rfl) (by rfl) ?_
  refine rs_left P A K c 2 (sem_of_5 _ rfl) (by rfl) ?_
  refine rs_left P A K c 3 (sem_of_5 _ rfl) (by rfl) ?_
  refine rs_left P A K c 4 (sem_of_5 _ rfl) (by rfl) ?_
  refine rs_left P A K c 5 (sem_of_5 _ rfl) (by rfl) ?_
  exact hk _ trivial

theorem part31_run : Stretch P A K c (onBufs (k0_part31 (F := F)) c) (fun _ => True)
    (Waiting P A c 0 dist 15 6)
    (Waiting P A c 0 dist 15 12) := by
  intro β κ Q R hk
  rw [k0_part31_eq_skeleton]
  unfold onBufs k0_part31_skel
  simp only [Prog.lift, Prog.bind_op, Prog.bind_ret, Prog.pure_eq_ret]
  refine rs_left P A K c 6 (sem_of_5 _ rfl) (by rfl) ?_
  refine rs_left P A K c 7 (sem_of_5 _ rfl) (by rfl) ?_
  refine rs_left P A K c 8 (sem_of_5 _ rfl) (by rfl) ?_
  refine rs_left P A K c 9 (sem_of_5 _ rfl) (by rfl) ?_
  refine rs_left P A K c 10 (sem_of_5 _ rfl) (by rfl) ?_
  refine rs_left P A K c 11 (sem_of_5 _ rfl) (by rfl) ?_
  exact hk _ trivial

theorem part32_run : Stretch P A K c (onBufs (k0_part32 (F := F)) c) (fun _ => True)
    iprop((Gone c 2 ∗ Posn c 2) ∗ Waiting P A c 0 dist 15 12)
    iprop(Done P A c 0 dist ∗ Waiting P A c 2 dist 15 3) := by
  intro β κ Q R hk
  rw [k0_part32_eq_skeleton]
  unfold onBufs k0_part32_skel
  simp only [Prog.lift, Prog.bind_op, Prog.bind_ret, Prog.pure_eq_ret]
  refine (sep_regroup _ _ _ _).trans ?_
  refine rs_left P A K c 12 (sem_of_5 _ rfl) (by rfl) ?_
  refine rs_left P A K c 13 (sem_of_5 _ rfl) (by rfl) ?_
  refine rs_left P A K c 14 (sem_of_5 _ rfl) (by rfl) ?_
  refine (next_wait P A K c 0 dist 2).trans ?_
  refine ag_left P A K c 0 (sem_of_7 _ rfl) (by rfl) ?_
  refine ag_left P A K c 1 (sem_of_7 _ rfl) (by rfl) ?_
  refine ag_left P A K c 2 (sem_of_7 _ rfl) (by rfl) ?_
  exact (sep_assoc_four _ _ _ _).trans (hk _ trivial)

theorem part33_run : Stretch P A K c (onBufs (k0_part33 (F := F)) c) (fun _ => True)
    (Waiting P A c 2 dist 15 3)
    (Waiting P A c 2 dist 15 9) := by
  intro β κ Q R hk
  rw [k0_part33_eq_skeleton]
  unfold onBufs k0_part33_skel
  simp only [Prog.lift, Prog.bind_op, Prog.bind_ret, Prog.pure_eq_ret]
  refine ag_left P A K c 3 (sem_of_7 _ rfl) (by rfl) ?_
  refine ag_left P A K c 4 (sem_of_7 _ rfl) (by rfl) ?_
  refine ag_left P A K c 5 (sem_of_7 _ rfl) (by rfl) ?_
  refine ag_left P A K c 6 (sem_of_7 _ rfl) (by rfl) ?_
  refine ag_left P A K c 7 (sem_of_7 _ rfl) (by rfl) ?_
  refine ag_left P A K c 8 (sem_of_7 _ rfl) (by rfl) ?_
  exact hk _ trivial

/-- The last departures, and the first half of the output. -/
theorem part34_run (o : Vec F S2x256x512 .f32) : Stretch P A K c (onBufs (k0_part34 (F := F)) c) (fun v => v = window (s := S512x512) A ![256, 0] S256x512.size inb_S512x512_S256x512_256_0)
    iprop((Done P A c 3 (peer c) ∗ gathPt c c (shareDrop fullShare 15) A ∗ ((c : Thread nD τ).loc cc0_stg5_0 ↦{fullShare} o)) ∗ Waiting P A c 2 dist 15 9)
    iprop(((c : Thread nD τ).loc cc0_scratch3 ↦{fullShare} A)
      ∗ ((c : Thread nD τ).loc cc0_stg5_0 ↦{fullShare} (put (s := S2x256x512) o ![0, 0, 0] S1x256x512.size (k0_pay30 (window (s := S512x512) A ![0, 0] S256x512.size inb_S512x512_S256x512_0_0)) : Vec F S2x256x512 .f32))
      ∗ (bigSep Finset.univ fun r : Fin 15 => atPos ER (dcell c 3 (peer c r)) 1 ∅ 0) ∗ (bigSep Finset.univ fun r : Fin 15 => atPos ER (dcell c 2 (dist r)) 1 ∅ 0)
      ∗ ∃ W, owes (c : Thread nD τ) (owed c 15 15 15) W) := by
  intro β κ Q R hk
  rw [k0_part34_eq_skeleton]
  unfold onBufs k0_part34_skel
  simp only [Prog.lift, Prog.bind_op, Prog.bind_ret, Prog.pure_eq_ret]
  refine (sep_regroup _ _ _ _).trans ?_
  refine ag_left P A K c 9 (sem_of_7 _ rfl) (by rfl) ?_
  refine ag_left P A K c 10 (sem_of_7 _ rfl) (by rfl) ?_
  refine ag_left P A K c 11 (sem_of_7 _ rfl) (by rfl) ?_
  refine ag_left P A K c 12 (sem_of_7 _ rfl) (by rfl) ?_
  refine ag_left P A K c 13 (sem_of_7 _ rfl) (by rfl) ?_
  refine ag_left P A K c 14 (sem_of_7 _ rfl) (by rfl) ?_
  iintro ⟨#HC, ⟨HR, HD, Hg, Ho⟩, HW⟩
  ihave ⟨HD2, HO⟩ := (waiting_end P A c 2 dist 15) $$ HW
  ihave ⟨Hg, Ha3, Ha2⟩ := (gathered_whole P A c) $$ [HD HD2 Hg]
  · isplitl [HD]; · iexact HD
    isplitl [HD2]; · iexact HD2
    iexact Hg
  iapply (load_win (F := F) c) $$ Hg
  iintro Hg
  iapply (load_win (F := F) c) $$ Ho
  iintro Ho
  iapply (store_win (F := F) c) $$ Ho
  iintro Ho
  iapply (load_win (F := F) c) $$ Hg
  iintro Hg
  iapply (hk _ rfl)
  isplitr; · iexact HC
  isplitl [HR]; · iexact HR
  isplitl [Hg]; · iexact Hg
  isplitl [Ho]; · iexact Ho
  isplitl [Ha3]; · iexact Ha3
  isplitl [Ha2]; · iexact Ha2
  iexact HO

end Cert.KernelIdealProof

end
-- ==== Proof.KernelIdealBody.lean ====
/-
# The whole body

The thirty-four parts of the body one after another, from what a device holds when the kernel starts to what it holds when it returns:
the scratch buffers whole again, every semaphore back at zero, and the result in the staging buffer of the output.
-/
module

public import proofs.«01_k».proof.Proof.KernelIdealExchange

@[expose] public section

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.ValueIdx
open Idealize.ShloMosaic.VecWindow

variable {F : FTy → Type} [FloatOps F] [Named F]

local notation "𝕄" => MT nD τ sig Unit (Elt F) ℕ UU ℕ

/-! ## Four families of cells -/

/-- A family over four, written out. -/
theorem four {M : Type} [URA M] (Φ : Fin 4 → sProp M) : bigSep Finset.univ Φ = iprop(Φ 0 ∗ Φ 1 ∗ Φ 2 ∗ Φ 3) := by
  rw [show (Finset.univ : Finset (Fin 4)) = insert 0 (insert 1 (insert 2 {3})) by decide, bigSep_insert (by decide), bigSep_insert (by decide),
    bigSep_insert (by decide), bigSep_singleton]
  rfl

section Families

variable (c : Dev nD)

/-- What is held of every cell of a device: of the four idle ones, and of the used ones family by family. -/
theorem families (Φ : Fin 4 → Fin 16 → sProp 𝕄) : (bigSep Finset.univ fun x : Fin 4 × Fin 16 => Φ x.1 x.2)
    = iprop((Φ 0 0 ∗ bigSep Finset.univ fun r : Fin 15 => Φ 0 (dist r)) ∗ (Φ 1 c ∗ bigSep Finset.univ fun r : Fin 15 => Φ 1 (peer c r))
      ∗ (Φ 2 0 ∗ bigSep Finset.univ fun r : Fin 15 => Φ 2 (dist r)) ∗ (Φ 3 c ∗ bigSep Finset.univ fun r : Fin 15 => Φ 3 (peer c r))) := by
  rw [bigSep_univ_prod, four, around 0 (fun k => Φ 0 k), around c (fun k => Φ 1 k), around 0 (fun k => Φ 2 k), around c (fun k => Φ 3 k)]

/-- Where the owner of each cell stands at the start, and at the end. -/
def atStart : sProp 𝕄 := bigSep Finset.univ fun x : Fin 4 × Fin 16 => atPos ER (dcell c x.1 x.2) 0 ∅ 0
/-- the idle cells of a device, -/
def idles : sProp 𝕄 := iprop(atPos ER (dcell c 0 0) 0 ∅ 0 ∗ atPos ER (dcell c 1 c) 0 ∅ 0 ∗ atPos ER (dcell c 2 0) 0 ∅ 0 ∗ atPos ER (dcell c 3 c) 0 ∅ 0)
/-- and the positions of a family whose index is the sender. -/
def PosnFrom (f : Fin 4) : sProp 𝕄 := bigSep Finset.univ fun r : Fin 15 => atPos ER (dcell c f (peer c r)) 0 ∅ 0

theorem atStart_split : (atStart c : sProp 𝕄) ⊢ iprop(idles c ∗ Posn c 0 ∗ PosnFrom c 1 ∗ Posn c 2 ∗ PosnFrom c 3) := by
  unfold atStart idles Posn PosnFrom
  rw [families c fun f k => atPos ER (dcell c f k) 0 ∅ 0]
  iintro ⟨⟨H0, G0⟩, ⟨H1, G1⟩, ⟨H2, G2⟩, H3, G3⟩
  iframe

/-- The round a cell ends in: an idle cell never moves. -/
def lastRound (x : Fin 4 × Fin 16) : ℕ := if x.2 = idle c x.1 then 0 else 1

def atEnd : sProp 𝕄 := bigSep Finset.univ fun x : Fin 4 × Fin 16 => atPos ER (dcell c x.1 x.2) (lastRound c x) ∅ 0

theorem atEnd_join : iprop(idles c ∗ (bigSep Finset.univ fun r : Fin 15 => atPos ER (dcell c 0 (dist r)) 1 ∅ 0) ∗ (bigSep Finset.univ fun r : Fin 15 => atPos ER (dcell c 1 (peer c r)) 1 ∅ 0)
    ∗ (bigSep Finset.univ fun r : Fin 15 => atPos ER (dcell c 2 (dist r)) 1 ∅ 0) ∗ bigSep Finset.univ fun r : Fin 15 => atPos ER (dcell c 3 (peer c r)) 1 ∅ 0) ⊢ (atEnd c : sProp 𝕄) := by
  have n (f : Fin 4) (hf : ∀ r, dist r ≠ idle c f) : (bigSep Finset.univ fun r : Fin 15 => atPos ER (dcell c f (dist r)) 1 ∅ 0 : sProp 𝕄)
      = bigSep Finset.univ fun r : Fin 15 => atPos ER (dcell c f (dist r)) (lastRound c (f, dist r)) ∅ 0 :=
    bigSep_congr fun r _ => by rw [show lastRound c (f, dist r) = 1 from if_neg (hf r)]
  have n' (f : Fin 4) (hf : idle c f = c) : (bigSep Finset.univ fun r : Fin 15 => atPos ER (dcell c f (peer c r)) 1 ∅ 0 : sProp 𝕄)
      = bigSep Finset.univ fun r : Fin 15 => atPos ER (dcell c f (peer c r)) (lastRound c (f, peer c r)) ∅ 0 :=
    bigSep_congr fun r _ => by rw [show lastRound c (f, peer c r) = 1 from if_neg (by rw [hf]; exact peer_ne c r)]
  have e (f : Fin 4) (k : Fin 16) (h : k = idle c f) : lastRound c (f, k) = 0 := if_pos h
  unfold atEnd idles
  rw [families c fun f k => atPos ER (dcell c f k) (lastRound c (f, k)) ∅ 0, n 0 (dist_ne c), n 2 (dist_ne' c), n' 1 rfl, n' 3 rfl,
    e 0 0 rfl, e 1 c rfl, e 2 0 rfl, e 3 c rfl]
  iintro ⟨⟨H0, H1, H2, H3⟩, G0, G1, G2, G3⟩
  iframe

end Families

/-! ## Into the exchange, and out of it -/

section Ends

variable (P : Parts F) (A : GathBuf F) (K : GSem nD τ sig → ℕ) (c : Dev nD)

/-- The tokens of the copies a device sends. -/
def CopyToks : sProp 𝕄 :=
  iprop((bigSep Finset.univ fun r : Fin 15 => dutyTok ER (dcell c 0 (dist r)) 0 (0 : Fin 16)) ∗ (bigSep Finset.univ fun r : Fin 15 => dutyTok ER (dcell (peer c r) 1 c) 0 (0 : Fin 16))
    ∗ (bigSep Finset.univ fun r : Fin 15 => dutyTok ER (dcell c 2 (dist r)) 0 (0 : Fin 16)) ∗ bigSep Finset.univ fun r : Fin 15 => dutyTok ER (dcell (peer c r) 3 c) 0 (0 : Fin 16))
/-- The tokens of its signals. -/
def SigToks : sProp 𝕄 := bigSep Finset.univ fun r : Fin 15 => dutyTok ER (barCell (peer c r)) 0 c
/-- The credits of the landings it waits for. -/
def Coming (f : Fin 4) : sProp 𝕄 := bigSep Finset.univ fun r : Fin 15 => cred (tallyAt (dcell c f (peer c r)) () N)

theorem todo_of_coming (f : Fin 4) : iprop(Coming c f ∗ PosnFrom c f) ⊢ (Todo c f (peer c) : sProp 𝕄) := Entails.of_eq (bigSep_sep _ _ _).symm

/-- Places held at known contents are places held at some. -/
theorem place_some (r : Fin 15) (f : CommBuf F) (g : GathBuf F) : iprop(dutyTok ER (barCell (peer c r)) 0 c ∗ commPt c (peer c r) f ∗ gathPt c (peer c r) fullShare g)
    ⊢ (iprop(dutyTok ER (barCell (peer c r)) 0 c ∗ (∃ f, commPt c (peer c r) f) ∗ ∃ f, gathPt c (peer c r) fullShare f) : sProp 𝕄) := by
  iintro ⟨H0, H1, H2⟩
  isplitl [H0]; · iexact H0
  isplitl [H1]; · iexists f; iexact H1
  iexists g; iexact H2
theorem places_some (f : CommBuf F) (g : GathBuf F) : (bigSep Finset.univ fun r : Fin 15 => iprop(dutyTok ER (barCell (peer c r)) 0 c ∗ commPt c (peer c r) f ∗ gathPt c (peer c r) fullShare g))
    ⊢ (bigSep Finset.univ fun r : Fin 15 => iprop(dutyTok ER (barCell (peer c r)) 0 c ∗ (∃ f, commPt c (peer c r) f) ∗ ∃ f, gathPt c (peer c r) fullShare f) : sProp 𝕄) :=
  bigSep_mono fun r _ => place_some c r f g

/-- The two landing buffers cut up: the device keeps its own places and hands the rest to its peers with its signals. -/
theorem sig_start : iprop(SigToks c ∗ (∃ f, (c : Thread nD τ).loc cc0_scratch2 ↦{fullShare} (f : CommBuf F)) ∗ (∃ f, (c : Thread nD τ).loc cc0_scratch3 ↦{fullShare} (f : GathBuf F))
    ∗ ∃ W, owes (c : Thread nD τ) (O₀ c) W) ⊢ iprop((∃ f, commPt c c f) ∗ (∃ f, gathPt c c fullShare f) ∗ Sig (F := F) c 0) := by
  unfold SigToks Sig O₀
  rw [from_zero]
  iintro ⟨HT, ⟨%f, Hf⟩, ⟨%g, Hg⟩, HO⟩
  ihave Hf := (Entails.of_eq ((comm_slots c f).trans (around c fun k => commPt c k f))) $$ Hf
  icases Hf with ⟨Hf0, Hf⟩
  ihave Hg := (Entails.of_eq ((gath_chunks c g).trans (around c fun k => gathPt c k fullShare g))) $$ Hg
  icases Hg with ⟨Hg0, Hg⟩
  isplitl [Hf0]; · iexists f; iexact Hf0
  isplitl [Hg0]; · iexists g; iexact Hg0
  isplitl [HT Hf Hg]
  · ihave H := (zip_sep Finset.univ (fun r : Fin 15 => commPt c (peer c r) f) (fun r : Fin 15 => gathPt c (peer c r) fullShare g)) $$ [Hf Hg]
    · iframe
    ihave H := (zip_sep Finset.univ (fun r : Fin 15 => dutyTok ER (barCell (peer c r)) 0 c) _) $$ [HT H]
    · iframe
    iapply (places_some c f g)
    iexact H
  iexact HO

/-- With what the peers' signals brought, the copies of both exchanges have all they need but their sources' contents. -/
theorem exchange_start : iprop(sendPt c (P c) ∗ (bigSep Finset.univ fun r : Fin 15 => barPay (F := F) c (peer c r)) ∗ CopyToks c ∗ ∃ W, owes (c : Thread nD τ) (owed c 15 0 0) W)
    ⊢ iprop(partPt c c (P c) ∗ Later c ∗ RsSend P c 0) := by
  unfold CopyToks Later RsSend
  rw [from_zero, upto_zero, bigSep_empty]
  iintro ⟨HS, HB, ⟨T0, T1, T2, T3⟩, HO⟩
  ihave HS := (Entails.of_eq ((part_chunks c (P c)).trans (around c fun k => partPt c k (P c)))) $$ HS
  icases HS with ⟨HS0, HS⟩
  isplitl [HS0]; · iexact HS0
  unfold barPay
  ihave ⟨B0, HB⟩ := (unzip_sep Finset.univ (fun r : Fin 15 => iprop(∃ f, commPt (peer c r) c f)) (fun r : Fin 15 => iprop((∃ f, gathPt (peer c r) c fullShare f) ∗ reached ER (dcell (peer c r) 1 c) 0 ∗ reached ER (dcell (peer c r) 3 c) 0))) $$ HB
  ihave ⟨B1, HB⟩ := (unzip_sep Finset.univ (fun r : Fin 15 => iprop(∃ f, gathPt (peer c r) c fullShare f)) (fun r : Fin 15 => iprop(reached ER (dcell (peer c r) 1 c) 0 ∗ reached ER (dcell (peer c r) 3 c) 0))) $$ HB
  ihave ⟨B2, B3⟩ := (unzip_sep Finset.univ (fun r : Fin 15 => reached ER (dcell (peer c r) 1 c) 0) (fun r : Fin 15 => reached ER (dcell (peer c r) 3 c) 0)) $$ HB
  isplitl [B1 B3 T2 T3]
  · ihave H := (zip_sep Finset.univ (fun r : Fin 15 => dutyTok ER (dcell c 2 (dist r)) 0 (0 : Fin 16)) (fun r : Fin 15 => dutyTok ER (dcell (peer c r) 3 c) 0 (0 : Fin 16))) $$ [T2 T3]
    · iframe
    ihave H := (zip_sep Finset.univ (fun r : Fin 15 => reached ER (dcell (peer c r) 3 c) 0) _) $$ [B3 H]
    · iframe
    iapply (zip_sep Finset.univ (fun r : Fin 15 => iprop(∃ f, gathPt (peer c r) c fullShare f)) _)
    isplitl [B1]; · iexact B1
    iexact H
  isplitl [HS B0 B2 T0 T1]
  · ihave H := (zip_sep Finset.univ (fun r : Fin 15 => dutyTok ER (dcell c 0 (dist r)) 0 (0 : Fin 16)) (fun r : Fin 15 => dutyTok ER (dcell (peer c r) 1 c) 0 (0 : Fin 16))) $$ [T0 T1]
    · iframe
    ihave H := (zip_sep Finset.univ (fun r : Fin 15 => reached ER (dcell (peer c r) 1 c) 0) _) $$ [B2 H]
    · iframe
    ihave H := (zip_sep Finset.univ (fun r : Fin 15 => iprop(∃ f, commPt (peer c r) c f)) _) $$ [B0 H]
    · iframe
    iapply (zip_sep Finset.univ (fun r : Fin 15 => partPt c (peer c r) (P c)) _)
    isplitl [HS]; · iexact HS
    iexact H
  isplitr; · iempintro
  iexact HO

/-- The chunks sent are back, so the buffer sent from is whole. -/
theorem sent_whole : iprop(partPt c c (P c) ∗ Done P A c 0 dist) ⊢ iprop(sendPt c (P c) ∗ bigSep Finset.univ fun r : Fin 15 => atPos ER (dcell c 0 (dist r)) 1 ∅ 0) := by
  unfold Done
  rw [show (sendPt c (P c) : sProp 𝕄) = _ from (part_chunks c (P c)).trans (around c fun k => partPt c k (P c)), ← bigSep_congr fun r _ => copyPay_part P A c r]
  iintro ⟨Hc, HD⟩
  ihave ⟨Hp, Ha⟩ := (unzip_sep Finset.univ (fun r : Fin 15 => copyPay P A c 0 (dist r)) (fun r : Fin 15 => atPos ER (dcell c 0 (dist r)) 1 ∅ 0)) $$ HD
  iframe

/-- Every copy cell closed: its counter is zero. -/
theorem copies_close : iprop(ctx P A K c ∗ atEnd c) ⊢ |={Set.univ}=> bigSep Finset.univ fun x : Fin 4 × Fin 16 => semVal (dcell c x.1 x.2) 0 := by
  refine .trans ?_ (cells_close ER (rd P A) (Finset.univ : Finset (Fin 4 × Fin 16)) (fun x => dcell c x.1 x.2) (fun x => K (dcell c x.1 x.2)) (fun _ _ => Set.mem_univ _) (fun _ _ => id)
    (lastRound c) fun x _ r hr => ?_)
  · unfold atEnd
    refine bigSep_with_persistent fun x _ => ?_
    iintro ⟨#HC, H⟩
    isplitr
    · iapply (ctx_copy P A K c c x.1 x.2); iexact HC
    iexact H
  · unfold lastRound at hr
    split_ifs at hr with h
    · rw [h]; exact duties_idle P A c x.1 r
    · exact duties_later P A _ r hr

theorem bar_close : iprop(ctx P A K c ∗ atPos ER (barCell c) 1 ∅ 0) ⊢ |={Set.univ}=> semVal (barCell c) 0 := by
  iintro ⟨#HC, H⟩
  iapply (cell_close ER (rd P A) (κ := K (barCell c)) (Set.mem_univ _) id (duties_later P A (barCell c)))
  isplitr
  · ihave ⟨H0, -⟩ := (ctx_bar P A K c c) $$ HC
    iexact H0
  iexact H

/-! ## From start to end -/

/-- The result: the two batches of the gathered buffer, each at its rows. -/
def outOf : Vec F S2x256x512 .f32 := fun i =>
  if (i 0).val = 0 then k0_pay30 (window (s := S512x512) A ![0, 0] S256x512.size inb_S512x512_S256x512_0_0) (ix3 (0 : Fin 1) (⟨(i 1).val, (i 1).isLt⟩ : Fin 256) (⟨(i 2).val, (i 2).isLt⟩ : Fin 512))
  else k0_pay1 (window (s := S512x512) A ![256, 0] S256x512.size inb_S512x512_S256x512_256_0) (ix3 (0 : Fin 1) (⟨(i 1).val, (i 1).isLt⟩ : Fin 256) (⟨(i 2).val, (i 2).isLt⟩ : Fin 512))

theorem out_of_puts (o : Vec F S2x256x512 .f32) :
    put (s := S2x256x512) (put (s := S2x256x512) o ![0, 0, 0] S1x256x512.size (k0_pay30 (window (s := S512x512) A ![0, 0] S256x512.size inb_S512x512_S256x512_0_0)))
      ![1, 0, 0] S1x256x512.size (k0_pay1 (window (s := S512x512) A ![256, 0] S256x512.size inb_S512x512_S256x512_256_0)) = outOf A := by
  funext i
  have h0 : (i 0).val < 2 := (i 0).isLt
  have h1 : (i 1).val < 256 := (i 1).isLt
  have h2 : (i 2).val < 512 := (i 2).isLt
  unfold outOf
  by_cases h : (i 0).val = 0
  · rw [if_pos h]
    unfold put
    rw [dif_neg (fun hin => by have h0 : 1 ≤ (i 0).val ∧ _ := hin 0; omega), dif_pos (fun a => by
      fin_cases a
      · show 0 ≤ (i 0).val ∧ (i 0).val < 0 + 1; omega
      · show 0 ≤ (i 1).val ∧ (i 1).val < 0 + 256; omega
      · show 0 ≤ (i 2).val ∧ (i 2).val < 0 + 512; omega)]
    refine congrArg _ (funext fun a => Fin.ext ?_)
    fin_cases a
    · show (i 0).val - 0 = 0; omega
    · show (i 1).val - 0 = (i 1).val; omega
    · show (i 2).val - 0 = (i 2).val; omega
  · rw [if_neg h]
    unfold put
    rw [dif_pos (fun a => by
      fin_cases a
      · show 1 ≤ (i 0).val ∧ (i 0).val < 1 + 1; omega
      · show 0 ≤ (i 1).val ∧ (i 1).val < 0 + 256; omega
      · show 0 ≤ (i 2).val ∧ (i 2).val < 0 + 512; omega)]
    refine congrArg _ (funext fun a => Fin.ext ?_)
    fin_cases a
    · show (i 0).val - 1 = 0; omega
    · show (i 1).val - 0 = (i 1).val; omega
    · show (i 2).val - 0 = (i 2).val; omega

/-- The five scratch buffers, the last at known contents and the others at whatever they hold; -/
def scratchAt (f : Vec F S512x256 .f32) : sProp 𝕄 :=
  iprop((∃ f, accPt (F := F) c f) ∗ (∃ f, sendPt (F := F) c f) ∗ (∃ f, (c : Thread nD τ).loc cc0_scratch2 ↦{fullShare} (f : CommBuf F))
    ∗ (∃ f, (c : Thread nD τ).loc cc0_scratch3 ↦{fullShare} (f : GathBuf F)) ∗ ctxPt c f)
/-- and all five at whatever they hold. -/
def scratch : sProp 𝕄 :=
  iprop((∃ f, accPt (F := F) c f) ∗ (∃ f, sendPt (F := F) c f) ∗ (∃ f, (c : Thread nD τ).loc cc0_scratch2 ↦{fullShare} (f : CommBuf F))
    ∗ (∃ f, (c : Thread nD τ).loc cc0_scratch3 ↦{fullShare} (f : GathBuf F)) ∗ ∃ f, ctxPt (F := F) c f)

/-- What the launch hands a device for the exchange. -/
def handed : sProp 𝕄 :=
  iprop((SigToks c ∗ CopyToks c) ∗ (cred (tallyAt (barCell c) () 15) ∗ Coming c 1 ∗ Coming c 3) ∗ atPos ER (barCell c) 0 ∅ 0 ∗ atStart c)

/-- What is set aside while the signals are sent. -/
def aside (o : Vec F S2x256x512 .f32) : sProp 𝕄 :=
  iprop(((c : Thread nD τ).loc cc0_stg5_0 ↦{fullShare} o) ∗ (∃ f, commPt (F := F) c c f) ∗ (∃ f, gathPt (F := F) c c fullShare f) ∗ CopyToks c ∗ (Coming c 1 ∗ Coming c 3)
    ∗ idles c ∗ Posn c 0 ∗ PosnFrom c 1 ∗ Posn c 2 ∗ PosnFrom c 3)

theorem sep_assoc_three (X Y Z : sProp 𝕄) : iprop(X ∗ Y ∗ Z) ⊢ iprop((X ∗ Y) ∗ Z) := by
  iintro ⟨H1, H2, H3⟩
  isplitr [H3]
  · isplitl [H1]; · iexact H1
    iexact H2
  iexact H3

theorem sep_regroup_seven (X Y₀ Y₁ Y₂ Z S T : sProp 𝕄) : iprop(((X ∗ (Y₀ ∗ Y₁ ∗ Y₂) ∗ Z) ∗ S) ∗ T) ⊢ iprop((X ∗ S) ∗ ((T ∗ Z) ∗ Y₀ ∗ Y₁ ∗ Y₂)) := by
  iintro ⟨⟨⟨H1, H2, H5⟩, H6⟩, H7⟩
  isplitl [H1 H6]
  · isplitl [H1]; · iexact H1
    iexact H6
  isplitl [H7 H5]
  · isplitl [H7]; · iexact H7
    iexact H5
  iexact H2

/-- What is framed round a stretch, changed. -/
theorem reframe {X Y Z : sProp 𝕄} (h : X ⊢ Y) (h' : iprop(ctx P A K c ∗ Y) ⊢ Z) : iprop(ctx P A K c ∗ X) ⊢ Z := (sep_mono_right h).trans h'

variable (I : Inputs F)

/-- The result of the body, and what else it leaves. -/
def left : sProp 𝕄 :=
  iprop(staged c I ∗ ((c : Thread nD τ).loc cc0_stg5_0 ↦{fullShare} outOf A) ∗ scratch c
    ∗ (bigSep Finset.univ fun x : Fin 4 × Fin 16 => semVal (dcell c x.1 x.2) 0) ∗ semVal (barCell c) 0 ∗ ∃ W, owes (c : Thread nD τ) 0 W)

/-- What is held from the first copy to the last wait, -/
def standing (o : Vec F S2x256x512 .f32) : sProp 𝕄 :=
  iprop(((c : Thread nD τ).loc cc0_stg5_0 ↦{fullShare} o) ∗ staged c I ∗ ctxPt c I.context ∗ atPos ER (barCell c) 1 ∅ 0 ∗ idles c ∗ partPt c c (P c))
/-- and what is held once the sum is made. -/
def summed : sProp 𝕄 :=
  iprop(accPt c I.acc ∗ ((c : Thread nD τ).loc cc0_scratch2 ↦{fullShare} landed P c) ∗ (bigSep Finset.univ fun r : Fin 15 => atPos ER (dcell c 1 (peer c r)) 1 ∅ 0)
    ∗ gathPt c c (shareDrop fullShare 15) A)

set_option pp.maxSteps 400 in
theorem body_run_at (o : Vec F S2x256x512 .f32) (f : Vec F S512x256 .f32) (hP : I.part = P c)
    (hA : ∀ (f : GathBuf F), ∀ i ∈ gathSet c, put (s := S512x512) f ![32 * c.val, 0] S32x512.size
      (k0_pay29 (window (s := S512x512) I.acc ![32 * c.val, 0] S32x512.size (inb_rows c)) (landed P c)) i = A i) :
    iprop(ctx P A K c ∗ staged c I ∗ ((c : Thread nD τ).loc cc0_stg5_0 ↦{fullShare} o) ∗ scratchAt c f ∗ handed c ∗ ∃ W, owes (c : Thread nD τ) (O₀ c) W)
      ⊢ Run c (onBufs (cc0_body (F := F))) fun _ => left A c I := by
  rw [cc0_body_eq_skeleton]
  unfold onBufs cc0_body_skel
  -- the signals
  refine reframe P A K c (Y := iprop((aside c o ∗ staged c I ∗ (cred (tallyAt (barCell c) () 15) ∗ atPos ER (barCell c) 0 ∅ 0)
    ∗ ctxPt c f ∗ (∃ g, accPt (F := F) c g) ∗ ∃ g, sendPt (F := F) c g) ∗ Sig c 0)) ?_ ?_
  · unfold scratchAt handed aside
    iintro ⟨H1, H2, ⟨H3, H4, H5, H6, H7⟩, ⟨⟨H8, H9⟩, ⟨H10, H11⟩, H12, H13⟩, H14⟩
    ihave ⟨G1, G2, G3⟩ := (sig_start c) $$ [H8 H5 H6 H14]
    · isplitl [H8]; · iexact H8
      isplitl [H5]; · iexact H5
      isplitl [H6]; · iexact H6
      iexact H14
    ihave H13 := (atStart_split c) $$ H13
    isplitr [G3]
    · isplitr [H1 H3 H4 H7 H10 H12]
      · isplitl [H2]; · iexact H2
        isplitl [G1]; · iexact G1
        isplitl [G2]; · iexact G2
        isplitl [H9]; · iexact H9
        isplitl [H11]; · iexact H11
        iexact H13
      isplitl [H1]; · iexact H1
      isplitl [H10 H12]
      · isplitl [H10]; · iexact H10
        iexact H12
      isplitl [H7]; · iexact H7
      isplitl [H3]; · iexact H3
      iexact H4
    iexact G3
  refine part1_run P A K c _ _ _ ?_
  rintro ⟨d0, v2, v3, v24, x1⟩ ⟨e1, e2⟩
  dsimp only at e1 e2
  subst d0
  subst v3
  refine part2_run P A K c _ _ _ ?_
  rintro ⟨v48, x2⟩ -
  -- the queries, and the tiles
  refine reframe P A K c (Y := iprop((aside c o ∗ (cred (tallyAt (barCell c) () 15) ∗ atPos ER (barCell c) 0 ∅ 0)
    ∗ ctxPt c f ∗ (∃ g, accPt (F := F) c g) ∗ ∃ g, sendPt (F := F) c g) ∗ staged c I ∗ Sig c 11)) ?_ ?_
  · iintro ⟨⟨H1, H2, H3, H4⟩, H5⟩
    isplitr [H2 H5]
    · isplitl [H1]; · iexact H1
      isplitl [H3]; · iexact H3
      iexact H4
    isplitl [H2]; · iexact H2
    iexact H5
  refine part3_run P A K c I _ _ _ ?_
  rintro _ rfl
  refine reframe P A K c (Y := iprop((aside c o ∗ (cred (tallyAt (barCell c) () 15) ∗ atPos ER (barCell c) 0 ∅ 0 ∗ Sig c 15)
    ∗ ((∃ g, accPt (F := F) c g) ∗ ∃ g, sendPt (F := F) c g) ∗ staged c I ∗ ctxPt c f) ∗ BI.emp)) ?_ ?_
  · iintro ⟨⟨H1, ⟨H2, H3⟩, H4, H5⟩, H6, H7⟩
    isplitl
    · isplitl [H1]; · iexact H1
      isplitl [H2 H3 H7]
      · isplitl [H2]; · iexact H2
        isplitl [H3]; · iexact H3
        iexact H7
      isplitl [H5]; · iexact H5
      isplitl [H6]; · iexact H6
      iexact H4
    iempintro
  refine part4_run P A K c _ _ _ ?_
  rintro _ rfl
  refine reframe P A K c (Y := iprop((aside c o ∗ (cred (tallyAt (barCell c) () 15) ∗ atPos ER (barCell c) 0 ∅ 0 ∗ Sig c 15)
    ∗ ((∃ g, accPt (F := F) c g) ∗ ∃ g, sendPt (F := F) c g)) ∗ staged c I ∗ ctxPt c f)) ?_ ?_
  · iintro ⟨⟨H1, H2, H3, H4⟩, -⟩
    isplitr [H4]
    · isplitl [H1]; · iexact H1
      isplitl [H2]; · iexact H2
      iexact H3
    iexact H4
  refine part5_run P A K c I f _ _ _ ?_
  rintro ⟨v128, v131, v134, v161, v162⟩ ⟨e1, e2, e3, e4⟩
  dsimp only at e1 e2 e3 e4
  subst v128 v131 v134 v161
  refine part6_run P A K c I _ _ _ _ ?_
  rintro _ rfl
  refine reframe P A K c (Y := iprop(((aside c o ∗ (cred (tallyAt (barCell c) () 15) ∗ atPos ER (barCell c) 0 ∅ 0 ∗ Sig c 15)
    ∗ ((∃ g, accPt (F := F) c g) ∗ ∃ g, sendPt (F := F) c g)) ∗ staged c I) ∗ ctxPt c _)) (sep_assoc_three _ _ _) ?_
  refine part7_run P A K c I _ _ _ _ ?_
  rintro _ rfl
  -- the partial product, and the peers' signals
  refine reframe P A K c (sep_regroup_seven _ _ _ _ _ _ _) ?_
  refine part8_run P A K c I _ (I.context_of_puts f) _ _ _ ?_
  rintro _ -
  -- the first exchange
  refine reframe P A K c (Y := iprop((standing P c I o ∗ (∃ f, commPt (F := F) c c f) ∗ accPt c I.acc ∗ (∃ f, gathPt (F := F) c c fullShare f) ∗ Later c ∗ (Coming c 1 ∗ Coming c 3)
    ∗ Posn c 0 ∗ PosnFrom c 1 ∗ Posn c 2 ∗ PosnFrom c 3) ∗ RsSend P c 0)) ?_ ?_
  · unfold aside standing
    iintro ⟨⟨⟨H1, H2, H3, H4, H5, H6, H7⟩, H8⟩, ⟨H9, H10, H11⟩, H12, H13, H14⟩
    ihave H11 := (Entails.of_eq (congrArg (fun z : PartBuf F => sendPt c z) hP)) $$ H11
    ihave ⟨G1, G2, G3⟩ := (exchange_start P c) $$ [H11 H13 H4 H14]
    · isplitl [H11]; · iexact H11
      isplitl [H13]; · iexact H13
      isplitl [H4]; · iexact H4
      iexact H14
    isplitr [G3]
    · isplitl [H1 H8 H9 H12 H6 G1]
      · isplitl [H1]; · iexact H1
        isplitl [H8]; · iexact H8
        isplitl [H9]; · iexact H9
        isplitl [H12]; · iexact H12
        isplitl [H6]; · iexact H6
        iexact G1
      isplitl [H2]; · iexact H2
      isplitl [H10]; · iexact H10
      isplitl [H3]; · iexact H3
      isplitl [G2]; · iexact G2
      isplitl [H5]; · iexact H5
      iexact H7
    iexact G3
  refine part9_run P A K c _ _ _ fun _ _ => ?_
  refine part10_run P A K c _ _ _ fun _ _ => ?_
  refine part11_run P A K c _ _ _ fun _ _ => ?_
  refine part12_run P A K c _ _ _ fun _ _ => ?_
  refine part13_run P A K c _ _ _ fun _ _ => ?_
  refine reframe P A K c (Y := iprop((standing P c I o ∗ accPt c I.acc ∗ (∃ f, gathPt (F := F) c c fullShare f) ∗ Later c ∗ Todo c 3 (peer c) ∗ Posn c 0 ∗ Posn c 2)
    ∗ ((∃ f, commPt (F := F) c c f) ∗ Todo c 1 (peer c)) ∗ RsSend P c 14)) ?_ ?_
  · iintro ⟨⟨H1, H2, H3, H4, H5, ⟨H6, H7⟩, H8, H9, H10, H11⟩, H12⟩
    ihave T1 := (todo_of_coming c 1) $$ [H6 H9]
    · isplitl [H6]; · iexact H6
      iexact H9
    ihave T3 := (todo_of_coming c 3) $$ [H7 H11]
    · isplitl [H7]; · iexact H7
      iexact H11
    isplitr [H2 T1 H12]
    · isplitl [H1]; · iexact H1
      isplitl [H3]; · iexact H3
      isplitl [H4]; · iexact H4
      isplitl [H5]; · iexact H5
      isplitl [T3]; · iexact T3
      isplitl [H8]; · iexact H8
      iexact H10
    isplitr [H12]
    · isplitl [H2]; · iexact H2
      iexact T1
    iexact H12
  refine part14_run P A K c _ _ _ fun _ _ => ?_
  refine (sep_regroup _ _ _ _).trans ?_
  refine part15_run P A K c _ _ _ fun _ _ => ?_
  refine part16_run P A K c _ _ _ fun _ _ => ?_
  refine part17_run P A K c _ _ _ fun _ _ => ?_
  refine part18_run P A K c _ _ _ fun _ _ => ?_
  -- the sum, and the second exchange
  refine reframe P A K c (Y := iprop((standing P c I o ∗ Todo c 3 (peer c) ∗ (Gone c 0 ∗ Posn c 0) ∗ Posn c 2)
    ∗ (accPt c I.acc ∗ commPt c c (landed P c) ∗ (∃ f, gathPt (F := F) c c fullShare f) ∗ Later c) ∗ Waiting P A c 1 (peer c) 0 14)) ?_ ?_
  · iintro ⟨⟨⟨H1, H2, H3, H4, H5, H6, H7⟩, H8, H9⟩, H10⟩
    isplitl [H1 H5 H9 H6 H7]
    · isplitl [H1]; · iexact H1
      isplitl [H5]; · iexact H5
      isplitr [H7]
      · isplitl [H9]; · iexact H9
        iexact H6
      iexact H7
    isplitr [H10]
    · isplitl [H2]; · iexact H2
      isplitl [H8]; · iexact H8
      isplitl [H3]; · iexact H3
      iexact H4
    iexact H10
  refine part19_run P A K c I.acc hA _ _ _ fun _ _ => ?_
  refine (sep_regroup _ _ _ _).trans ?_
  refine part20_run P A K c _ _ _ fun _ _ => ?_
  refine part21_run P A K c _ _ _ fun _ _ => ?_
  refine part22_run P A K c _ _ _ fun _ _ => ?_
  refine part23_run P A K c _ _ _ fun _ _ => ?_
  refine part24_run P A K c _ _ _ fun _ _ => ?_
  refine reframe P A K c (Y := iprop((standing P c I o ∗ summed P A c I ∗ (Gone c 0 ∗ Posn c 0) ∗ Posn c 2) ∗ Todo c 3 (peer c) ∗ AgSend A c 14)) ?_ ?_
  · unfold summed
    iintro ⟨⟨⟨H1, H2, H3, H4⟩, H5⟩, H6⟩
    isplitr [H2 H6]
    · isplitl [H1]; · iexact H1
      isplitl [H5]; · iexact H5
      isplitl [H3]; · iexact H3
      iexact H4
    isplitl [H2]; · iexact H2
    iexact H6
  refine part25_run P A K c _ _ _ fun _ _ => ?_
  refine (sep_regroup _ _ _ _).trans ?_
  refine part26_run P A K c _ _ _ fun _ _ => ?_
  refine part27_run P A K c _ _ _ fun _ _ => ?_
  refine part28_run P A K c _ _ _ fun _ _ => ?_
  refine reframe P A K c (Y := iprop((standing P c I o ∗ summed P A c I ∗ (Gone c 2 ∗ Posn c 2)) ∗ (Gone c 0 ∗ Posn c 0) ∗ Waiting P A c 3 (peer c) 15 12)) ?_ ?_
  · iintro ⟨⟨⟨H1, H2, H3, H4⟩, H5⟩, H6⟩
    isplitr [H3 H6]
    · isplitl [H1]; · iexact H1
      isplitl [H2]; · iexact H2
      isplitl [H5]; · iexact H5
      iexact H4
    isplitl [H3]; · iexact H3
    iexact H6
  refine part29_run P A K c _ _ _ fun _ _ => ?_
  refine (sep_regroup _ _ _ _).trans ?_
  refine part30_run P A K c _ _ _ fun _ _ => ?_
  refine part31_run P A K c _ _ _ fun _ _ => ?_
  refine reframe P A K c (Y := iprop((standing P c I o ∗ summed P A c I ∗ Done P A c 3 (peer c)) ∗ (Gone c 2 ∗ Posn c 2) ∗ Waiting P A c 0 dist 15 12)) ?_ ?_
  · iintro ⟨⟨⟨H1, H2, H3⟩, H4⟩, H5⟩
    isplitr [H3 H5]
    · isplitl [H1]; · iexact H1
      isplitl [H2]; · iexact H2
      iexact H4
    isplitl [H3]; · iexact H3
    iexact H5
  refine part32_run P A K c _ _ _ fun _ _ => ?_
  refine (sep_regroup _ _ _ _).trans ?_
  refine part33_run P A K c _ _ _ fun _ _ => ?_
  -- the end
  refine reframe P A K c (Y := iprop((staged c I ∗ ctxPt c I.context ∗ atPos ER (barCell c) 1 ∅ 0 ∗ idles c ∗ (partPt c c (P c) ∗ Done P A c 0 dist)
    ∗ accPt c I.acc ∗ ((c : Thread nD τ).loc cc0_scratch2 ↦{fullShare} landed P c) ∗ bigSep Finset.univ fun r : Fin 15 => atPos ER (dcell c 1 (peer c r)) 1 ∅ 0)
    ∗ (Done P A c 3 (peer c) ∗ gathPt c c (shareDrop fullShare 15) A ∗ ((c : Thread nD τ).loc cc0_stg5_0 ↦{fullShare} o)) ∗ Waiting P A c 2 dist 15 9)) ?_ ?_
  · unfold standing summed
    iintro ⟨⟨⟨⟨H1, H2, H3, H4, H5, H6⟩, ⟨H7, H8, H9, H10⟩, H11⟩, H12⟩, H13⟩
    isplitr [H11 H10 H1 H13]
    · isplitl [H2]; · iexact H2
      isplitl [H3]; · iexact H3
      isplitl [H4]; · iexact H4
      isplitl [H5]; · iexact H5
      isplitl [H6 H12]
      · isplitl [H6]; · iexact H6
        iexact H12
      isplitl [H7]; · iexact H7
      isplitl [H8]; · iexact H8
      iexact H9
    isplitr [H13]
    · isplitl [H11]; · iexact H11
      isplitl [H10]; · iexact H10
      iexact H1
    iexact H13
  refine part34_run P A K c o _ _ _ ?_
  rintro _ rfl
  simp only [Prog.lift, Prog.bind_op, Prog.bind_ret, Prog.pure_eq_ret]
  iintro ⟨#HC, ⟨H1, H2, H3, H4, H5, H6, H7, H8⟩, G1, G2, G3, G4, G5⟩
  iapply (load_win (F := F) c) $$ G2
  iintro G2
  iapply (store_win (F := F) c) $$ G2
  iintro G2
  ihave G2 := (Entails.of_eq (congrArg (fun z : Vec F S2x256x512 .f32 => ((c : Thread nD τ).loc cc0_stg5_0 ↦{fullShare} z)) (out_of_puts A o))) $$ G2
  ihave ⟨H5, H9⟩ := (sent_whole P A c) $$ H5
  unfold Run
  rw [wp_ret]
  imod (bar_close P A K c) $$ [H3] with H3
  · isplitr; · iexact HC
    iexact H3
  imod (copies_close P A K c) $$ [H4 H9 H8 G4 G3] with H4
  · isplitr; · iexact HC
    iapply (atEnd_join c)
    isplitl [H4]; · iexact H4
    isplitl [H9]; · iexact H9
    isplitl [H8]; · iexact H8
    isplitl [G4]; · iexact G4
    iexact G3
  imodintro
  unfold left scratch
  isplitl [H1]; · iexact H1
  isplitl [G2]; · iexact G2
  isplitl [H6 H5 H7 G1 H2]
  · isplitl [H6]; · iexists I.acc; iexact H6
    isplitl [H5]; · iexists P c; iexact H5
    isplitl [H7]; · iexists landed P c; iexact H7
    isplitl [G1]; · iexists A; iexact G1
    iexists I.context; iexact H2
  isplitl [H4]; · iexact H4
  isplitl [H3]; · iexact H3
  rw [owed_end]
  iexact G5

/-- The body, whatever the scratch buffers hold. -/
theorem body_run (o : Vec F S2x256x512 .f32) (hP : I.part = P c)
    (hA : ∀ (f : GathBuf F), ∀ i ∈ gathSet c, put (s := S512x512) f ![32 * c.val, 0] S32x512.size
      (k0_pay29 (window (s := S512x512) I.acc ![32 * c.val, 0] S32x512.size (inb_rows c)) (landed P c)) i = A i) :
    iprop(ctx P A K c ∗ staged c I ∗ ((c : Thread nD τ).loc cc0_stg5_0 ↦{fullShare} o) ∗ scratch c ∗ handed c ∗ ∃ W, owes (c : Thread nD τ) (O₀ c) W)
      ⊢ Run c (onBufs (cc0_body (F := F))) fun _ => left A c I := by
  unfold scratch
  iintro ⟨#HC, H1, H2, ⟨H3, H4, H5, H6, ⟨%f, H7⟩⟩, H8, H9⟩
  iapply (body_run_at P A K c I o f hP hA)
  isplitr; · iexact HC
  isplitl [H1]; · iexact H1
  isplitl [H2]; · iexact H2
  isplitl [H3 H4 H5 H6 H7]
  · unfold scratchAt
    isplitl [H3]; · iexact H3
    isplitl [H4]; · iexact H4
    isplitl [H5]; · iexact H5
    isplitl [H6]; · iexact H6
    iexact H7
  isplitl [H8]; · iexact H8
  iexact H9

end Ends

end Cert.KernelIdealProof

end
-- ==== Proof.KernelIdealRegion.lean ====
/-
# The kernel's region

What the windows hold on each device, the body run under the region's invariant, and the region itself: entered with the ghost state of the
launch and what the device owes, left with the result in the output array, the barrier semaphore at zero and nothing owed.
-/
module

public import proofs.«01_k».proof.Proof.KernelIdealBody
public import proofs.«01_k».proof.Proof.Gen.KernelIdeal.Regions
public import proofs.«01_k».proof.Proof.Gen.KernelIdeal.Points
public import Idealize.ShloMosaic.Lib.Pipeline.ValueKit.Geometry

@[expose] public section

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Idealize.ShloMosaic.Transfers
open Idealize.ShloMosaic.ValueIdx
open Idealize.ShloMosaic.VecWindow

variable {F : FTy → Type} [FloatOps F] [Named F]

local notation "𝕄" => MT nD τ sig Unit (Elt F) ℕ UU ℕ

/-! ## What the devices hold -/

variable (m : (ℓ : Loc nD τ sig) → Buf (Elt F) ℓ)

/-- The five inputs of the kernel on device `c`: three arguments, and the slices of two more that the host operations made. -/
def ins (c : Dev nD) : Inputs F := ⟨V1 m c main_arg0, V1 m c main_arg1, V1 m c main_v9, V1 m c main_v14, V1 m c main_arg4⟩

/-- Every device's partial product, as sent. -/
def parts : Parts F := fun c => (ins m c).part

/-- The device that finishes a row. -/
def ownerOf (i : Fin 512) : Dev nD := ⟨i.val / 32, by have := i.isLt; show _ < 16; omega⟩

/-- The finished rows of device `k`. -/
def finished (k : Dev nD) : S32x512.Idx → Elt F .bf16 :=
  k0_pay29 (window (s := S512x512) (ins m k).acc ![32 * k.val, 0] S32x512.size (inb_rows k)) (landed (parts m) k)

/-- What every device gathers: each row from the device that finished it. -/
def gathered : GathBuf F := fun i : S512x512.Idx =>
  finished m (ownerOf (i 0)) (ix2 (⟨(i 0).val % 32, Nat.mod_lt _ (by decide)⟩ : Fin 32) (i 1))

theorem gathered_own (c : Dev nD) (f : GathBuf F) : ∀ i ∈ gathSet c,
    put (s := S512x512) f ![32 * c.val, 0] S32x512.size
      (k0_pay29 (window (s := S512x512) (ins m c).acc ![32 * c.val, 0] S32x512.size (inb_rows c)) (landed (parts m) c)) i = gathered m i := by
  intro i hi
  have hc : (i 0).val / 32 = c.val := (mem_gathSet c i).mp hi
  have ho : ownerOf (i 0) = c := Fin.ext hc
  have h1 : (i 1).val < 512 := (i 1).isLt
  have hin : ∀ a : Fin 2, (![32 * c.val, 0] : Fin 2 → ℕ) a ≤ (i a).val ∧ (i a).val < (![32 * c.val, 0] : Fin 2 → ℕ) a + S32x512.size a := by
    intro a
    match a with
    | ⟨0, _⟩ => exact ⟨(by omega : 32 * c.val ≤ (i 0).val), (by omega : (i 0).val < 32 * c.val + 32)⟩
    | ⟨1, _⟩ => exact ⟨Nat.zero_le _, (by omega : (i 1).val < 0 + 512)⟩
  unfold put gathered finished
  rw [dif_pos hin, ho]
  refine congrArg _ ?_
  funext a
  apply Fin.ext
  match a with
  | ⟨0, _⟩ => show (i 0).val - 32 * c.val = (i 0).val % 32; omega
  | ⟨1, _⟩ => show (i 1).val - 0 = (i 1).val; omega

/-- The result of device `c`. -/
def result : Vec F S2x256x512 .f32 := outOf (gathered m)

/-- What the region leaves in its output. -/
def outs : Outs (F := F) := fun _ r c =>
  Function.update (V1 m c) (Proc.devRef .tc main_v15) (show Buf (Elt F) ((c : Thread nD τ).loc main_v15) from result m) (Proc.devRef .tc r)

theorem outs_out (c : Dev nD) : outs m 2 main_v15 c = result m := Function.update_self ..

theorem V2_out (c : Dev nD) : V2 m (outs m) c main_v15 = result m := (Function.update_self ..).trans (outs_out m c)

/-! ## The proof data of the windows -/

/-- What the device has of the protocol before the body, -/
def before (c : Dev nD) : sProp 𝕄 := iprop((∃ K, ctx (parts m) (gathered m) K c) ∗ handed (F := F) c)
/-- and after it: its semaphores at zero. -/
def after (c : Dev nD) : sProp 𝕄 :=
  iprop((bigSep Finset.univ fun x : Fin 4 × Fin 16 => semVal (dcell c x.1 x.2) 0) ∗ semVal (barCell c) 0)

def dat (c : Dev nD) : Dat τ (Elt F) Unit ℕ UU ℕ cfg0 c where
  A := fun
    | 0 => (ins m c).x
    | 1 => (ins m c).wq
    | 2 => (ins m c).k
    | 3 => (ins m c).v
    | 4 => (ins m c).wo
    | 5 => V1 m c main_v15
  after := fun w _ => match w with
    | 0 => (ins m c).x
    | 1 => (ins m c).wq
    | 2 => (ins m c).k
    | 3 => (ins m c).v
    | 4 => (ins m c).wo
    | 5 => result m
  Φ t := if t.val = 0 then iprop(before m c ∗ scratch (F := F) c ∗ ∃ r, prngReg c r) else iprop(after c ∗ scratch (F := F) c ∗ ∃ r, prngReg c r)
  q _ := fullShare
  owed t := if t.val = 0 then O₀ c else 0

abbrev pdats : (p : Fin 1) → (c : Dev nD) → Dat τ (Elt F) Unit ℕ UU ℕ (cfgs p) c := fun p c => match p with | 0 => dat m c

theorem inv_first (c : Dev nD) : (dat m c).Φ 0 = iprop(before m c ∗ scratch (F := F) c ∗ ∃ r, prngReg c r) := by
  show (if (0 : Fin (cfg0.N + 1)).val = 0 then iprop(before m c ∗ scratch (F := F) c ∗ ∃ r, prngReg c r) else iprop(after c ∗ scratch (F := F) c ∗ ∃ r, prngReg c r)) = _
  exact if_pos rfl
theorem inv_last (c : Dev nD) : (dat m c).Φ (Fin.last _) = iprop(after c ∗ scratch (F := F) c ∗ ∃ r, prngReg c r) := by
  show (if (Fin.last cfg0.N).val = 0 then iprop(before m c ∗ scratch (F := F) c ∗ ∃ r, prngReg c r) else iprop(after c ∗ scratch (F := F) c ∗ ∃ r, prngReg c r)) = _
  rw [Fin.val_last, if_neg (by rw [show cfg0.N = 1 from N_0]; decide)]
theorem owed_first (c : Dev nD) : (dat m c).owed 0 = O₀ c := by
  show (if (0 : Fin (cfg0.N + 1)).val = 0 then O₀ c else 0) = O₀ c
  exact if_pos rfl
theorem owed_last (c : Dev nD) : (dat m c).owed (Fin.last _) = 0 := by
  show (if (Fin.last cfg0.N).val = 0 then O₀ c else 0) = 0
  rw [Fin.val_last, if_neg (by rw [show cfg0.N = 1 from N_0]; decide)]

/-! ## What the body finds in the windows -/

/-- A window whose block is not cut moves all of it. -/
theorem moved_all (w : Fin cfg0.W) (h : ∀ a, (cfg0.win w).clip (cfg0.grid.coords t0_0) a = none) (y : (cfg0.win w).block.Idx) :
    (cfg0.win w).moved (cfg0.grid.coords t0_0) y = true :=
  ((cfg0.win w).moved_iff _ y).mpr fun a => by
    have hy := (y a).isLt
    unfold Pipeline.Window.xsize
    rw [h a]
    exact hy

theorem found0 (c : Dev nD) (d) : (dat m c).before 0 t0_0 d = (ins m c).x := by
  rw [(dat m c).before_fetched 0 t0_0 (fetch0_0 t0_0)]
  funext y
  unfold Dat.fetched Pipeline.Window.fill
  rw [dif_pos (moved_all 0 (fun _ => rfl) y)]
  refine congrArg (ins m c).x ?_
  funext a
  apply Fin.ext
  exact Pipeline.Window.rect_emb_val_of_index_zero _ _ _ (by revert a; decide) _
theorem found1 (c : Dev nD) (d) : (dat m c).before 1 t0_0 d = (ins m c).wq := by
  rw [(dat m c).before_fetched 1 t0_0 (fetch0_1 t0_0)]
  funext y
  unfold Dat.fetched Pipeline.Window.fill
  rw [dif_pos (moved_all 1 (fun _ => rfl) y)]
  refine congrArg (ins m c).wq ?_
  funext a
  apply Fin.ext
  exact Pipeline.Window.rect_emb_val_of_index_zero _ _ _ (by revert a; decide) _
theorem found2 (c : Dev nD) (d) : (dat m c).before 2 t0_0 d = (ins m c).k := by
  rw [(dat m c).before_fetched 2 t0_0 (fetch0_2 t0_0)]
  funext y
  unfold Dat.fetched Pipeline.Window.fill
  rw [dif_pos (moved_all 2 (fun _ => rfl) y)]
  refine congrArg (ins m c).k ?_
  funext a
  apply Fin.ext
  exact Pipeline.Window.rect_emb_val_of_index_zero _ _ _ (by revert a; decide) _
theorem found3 (c : Dev nD) (d) : (dat m c).before 3 t0_0 d = (ins m c).v := by
  rw [(dat m c).before_fetched 3 t0_0 (fetch0_3 t0_0)]
  funext y
  unfold Dat.fetched Pipeline.Window.fill
  rw [dif_pos (moved_all 3 (fun _ => rfl) y)]
  refine congrArg (ins m c).v ?_
  funext a
  apply Fin.ext
  exact Pipeline.Window.rect_emb_val_of_index_zero _ _ _ (by revert a; decide) _
theorem found4 (c : Dev nD) (d) : (dat m c).before 4 t0_0 d = (ins m c).wo := by
  rw [(dat m c).before_fetched 4 t0_0 (fetch0_4 t0_0)]
  funext y
  unfold Dat.fetched Pipeline.Window.fill
  rw [dif_pos (moved_all 4 (fun _ => rfl) y)]
  refine congrArg (ins m c).wo ?_
  funext a
  apply Fin.ext
  exact Pipeline.Window.rect_emb_val_of_index_zero _ _ _ (by revert a; decide) _

theorem out_at_end (c : Dev nD) : (dat m c).arrAt 5 cfg0.N = result m := by
  refine (dat m c).arrAt_eq_of_after_last 5 t0_0 (by decide +kernel) _ fun j => ?_
  rfl

/-! ## The body -/

theorem owesAt_intro (c : Dev nD) (t : Fin (cfg0.N + 1)) (O : CellTallies nD τ sig Unit) (h0 : (dat m c).owed t = O) (W : Waits sig Unit) :
    (owes (c : Thread nD τ) O W : sProp 𝕄) ⊢ ((dat m c).owesAt () t : sProp 𝕄) := by
  unfold Dat.owesAt Pipeline.owesWithin Dat.bound
  rw [h0, show (dat m c).recorded t = Set.univ from rfl]
  iintro HO; iexists W; isplitr; · ipureintro; exact fun _ _ => Or.inl trivial
  iexact HO
theorem owesAt_elim (c : Dev nD) (t : Fin (cfg0.N + 1)) (O : CellTallies nD τ sig Unit) (h0 : (dat m c).owed t = O) :
    ((dat m c).owesAt () t : sProp 𝕄) ⊢ iprop(∃ W, owes (c : Thread nD τ) O W) := by
  unfold Dat.owesAt Pipeline.owesWithin; rw [h0]
  iintro ⟨%W, -, HO⟩; iexists W; iexact HO

/-- What the body starts from, -/
theorem pre_of (c : Dev nD) :
    iprop((before m c ∗ scratch (F := F) c ∗ ∃ r, prngReg c r) ∗ (dat m c).owesAt () t0_0.castSucc
      ∗ (∃ d, owns (c : Thread nD τ) (Memref.whole cc0_stg0_0) fullShare ((dat m c).before 0 t0_0 d))
      ∗ (∃ d, owns (c : Thread nD τ) (Memref.whole cc0_stg1_0) fullShare ((dat m c).before 1 t0_0 d))
      ∗ (∃ d, owns (c : Thread nD τ) (Memref.whole cc0_stg2_0) fullShare ((dat m c).before 2 t0_0 d))
      ∗ (∃ d, owns (c : Thread nD τ) (Memref.whole cc0_stg3_0) fullShare ((dat m c).before 3 t0_0 d))
      ∗ (∃ d, owns (c : Thread nD τ) (Memref.whole cc0_stg4_0) fullShare ((dat m c).before 4 t0_0 d))
      ∗ (∃ d, owns (c : Thread nD τ) (Memref.whole cc0_stg5_0) fullShare ((dat m c).before 5 t0_0 d)))
    ⊢ iprop(Run c (onBufs (cc0_body (F := F))) (fun _ => left (gathered m) c (ins m c)) ∗ ∃ r, prngReg c r) := by
  unfold before
  iintro ⟨⟨⟨⟨%K, #Hctx⟩, Hhand⟩, Hscr, Hreg⟩, HO, ⟨%d0, H0⟩, ⟨%d1, H1⟩, ⟨%d2, H2⟩, ⟨%d3, H3⟩, ⟨%d4, H4⟩, ⟨%d5, H5⟩⟩
  rw [found0, found1, found2, found3, found4]
  isplitr [Hreg]
  · iapply (body_run (parts m) (gathered m) K c (ins m c) ((dat m c).before 5 t0_0 d5) rfl (gathered_own m c))
    isplitr; · iexact Hctx
    isplitl [H0 H1 H2 H3 H4]
    · unfold staged
      isplitl [H0]; · iapply (Entails.of_eq (owns_whole (c : Thread nD τ) cc0_stg0_0 fullShare (ins m c).x)); iexact H0
      isplitl [H1]; · iapply (Entails.of_eq (owns_whole (c : Thread nD τ) cc0_stg1_0 fullShare (ins m c).wq)); iexact H1
      isplitl [H2]; · iapply (Entails.of_eq (owns_whole (c : Thread nD τ) cc0_stg2_0 fullShare (ins m c).k)); iexact H2
      isplitl [H3]; · iapply (Entails.of_eq (owns_whole (c : Thread nD τ) cc0_stg3_0 fullShare (ins m c).v)); iexact H3
      iapply (Entails.of_eq (owns_whole (c : Thread nD τ) cc0_stg4_0 fullShare (ins m c).wo)); iexact H4
    isplitl [H5]; · iapply (Entails.of_eq (owns_whole (c : Thread nD τ) cc0_stg5_0 fullShare ((dat m c).before 5 t0_0 d5))); iexact H5
    isplitl [Hscr]; · iexact Hscr
    isplitl [Hhand]; · iexact Hhand
    iapply (owesAt_elim m c t0_0.castSucc (O₀ c) (owed_first m c)); iexact HO
  iexact Hreg

/-- and what it ends with. -/
theorem post_of (c : Dev nD) :
    iprop(left (gathered m) c (ins m c) ∗ ∃ r, prngReg c r)
    ⊢ iprop((after c ∗ scratch (F := F) c ∗ ∃ r, prngReg c r) ∗ (dat m c).owesAt () t0_0.succ
      ∗ owns (c : Thread nD τ) (Memref.whole cc0_stg0_0) fullShare ((dat m c).after 0 t0_0)
      ∗ owns (c : Thread nD τ) (Memref.whole cc0_stg1_0) fullShare ((dat m c).after 1 t0_0)
      ∗ owns (c : Thread nD τ) (Memref.whole cc0_stg2_0) fullShare ((dat m c).after 2 t0_0)
      ∗ owns (c : Thread nD τ) (Memref.whole cc0_stg3_0) fullShare ((dat m c).after 3 t0_0)
      ∗ owns (c : Thread nD τ) (Memref.whole cc0_stg4_0) fullShare ((dat m c).after 4 t0_0)
      ∗ owns (c : Thread nD τ) (Memref.whole cc0_stg5_0) fullShare ((dat m c).after 5 t0_0)) := by
  unfold left staged after
  iintro ⟨⟨⟨H0, H1, H2, H3, H4⟩, H5, Hscr, Hs, Hb, ⟨%W, HO⟩⟩, Hreg⟩
  isplitl [Hs Hb Hscr Hreg]; · iframe
  isplitl [HO]; · iapply (owesAt_intro m c t0_0.succ 0 (owed_last m c) W); iexact HO
  isplitl [H0]; · iapply (Entails.of_eq (owns_whole (c : Thread nD τ) cc0_stg0_0 fullShare (ins m c).x).symm); iexact H0
  isplitl [H1]; · iapply (Entails.of_eq (owns_whole (c : Thread nD τ) cc0_stg1_0 fullShare (ins m c).wq).symm); iexact H1
  isplitl [H2]; · iapply (Entails.of_eq (owns_whole (c : Thread nD τ) cc0_stg2_0 fullShare (ins m c).k).symm); iexact H2
  isplitl [H3]; · iapply (Entails.of_eq (owns_whole (c : Thread nD τ) cc0_stg3_0 fullShare (ins m c).v).symm); iexact H3
  isplitl [H4]; · iapply (Entails.of_eq (owns_whole (c : Thread nD τ) cc0_stg4_0 fullShare (ins m c).wo).symm); iexact H4
  iapply (Entails.of_eq (owns_whole (c : Thread nD τ) cc0_stg5_0 fullShare (result m)).symm); iexact H5

set_option maxRecDepth 20000 in
/-- The body's obligation: the run of the whole body, between the windows' contents. -/
theorem body (c : Dev nD) : BodyObligation (dat m c) defs₀ 𝒱₀ () Set.univ := fun t => by
  obtain rfl := fin_N0 t
  rw [bigSep_W0, bigSep_W0]
  rw [show (dat m c).Φ t0_0.castSucc = iprop(before m c ∗ scratch (F := F) c ∗ ∃ r, prngReg c r) from inv_first m c,
    show (dat m c).Φ t0_0.succ = iprop(after c ∗ scratch (F := F) c ∗ ∃ r, prngReg c r) from inv_last m c]
  exact ((pre_of m c).trans (wp_frame_r frame _ _)).trans (wp_mono frame _ _ fun _ => post_of m c)

/-! ## The region -/

/-- The device's copy semaphores. -/
abbrev osem : Fin 4 × Fin 16 → SemLoc sig := fun x => .dma (dsem x.1 x.2)

/-- What the region takes of the launch's ghost state: the cells' invariants, the opening tokens of the copy cells, the tokens of the
    duties the device performs, the credits it waits with, and its place at its barrier cell. -/
def entering (c : Dev nD) : sProp 𝕄 :=
  iprop((∃ K, known (parts m) (gathered m) K ∗ bigSep Finset.univ fun x : Fin 4 × Fin 16 => openTok ER (dcell c x.1 x.2))
    ∗ (SigToks c ∗ CopyToks c) ∗ (cred (tallyAt (barCell c) () 15) ∗ Coming c 1 ∗ Coming c 3) ∗ atPos ER (barCell c) 0 ∅ 0)

theorem known_cells (c : Dev nD) (K : GSem nD τ sig → ℕ) :
    known (parts m) (gathered m) K ⊢ iprop(bigSep Finset.univ fun x : Fin 4 × Fin 16 =>
      cellInv ER (rd (parts m) (gathered m)) (K (dcell c x.1 x.2)) (dcell c x.1 x.2)) := by
  unfold known
  iintro ⟨-, -, #H⟩
  iapply (bigSep_intro_persistent (R := (bigSep Finset.univ fun pfk : Dev nD × Fin 4 × Fin 16 =>
    cellInv ER (rd (parts m) (gathered m)) (K (dcell pfk.1 pfk.2.1 pfk.2.2)) (dcell pfk.1 pfk.2.1 pfk.2.2) : sProp 𝕄)) fun x _ =>
      bigSep_elim (i := (c, x)) (Finset.mem_univ _))
  iexact H

/-- The copy cells open when the region is entered, its semaphores at zero. -/
theorem open_cells (c : Dev nD) : iprop(entering m c ∗ Pipeline.ownSems0 osem c ∗ levAts L lv) ⊢ |={Set.univ}=> before m c := by
  unfold entering before handed
  iintro ⟨⟨⟨%K, #HK, Ho⟩, HT, HC, HB⟩, Hs, -⟩
  ihave HI := (known_cells m c K) $$ HK
  imod (Rounds.cells_open ER (rd (parts m) (gathered m)) Finset.univ (fun x : Fin 4 × Fin 16 => dcell c x.1 x.2)
      (fun x => K (dcell c x.1 x.2)) (Es := Set.univ) (fun _ _ => Set.mem_univ _)) $$ [HI Ho Hs] with H
  · isplitl [HI Ho]
    · iapply (zip_sep (s := Finset.univ) (Φ := fun x : Fin 4 × Fin 16 => cellInv ER (rd (parts m) (gathered m)) (K (dcell c x.1 x.2)) (dcell c x.1 x.2))
        (Ψ := fun x : Fin 4 × Fin 16 => openTok ER (dcell c x.1 x.2)))
      isplitl [HI] <;> iassumption
    · unfold Pipeline.ownSems0; iexact Hs
  ihave H' := (unzip_sep (s := Finset.univ) (Φ := fun x : Fin 4 × Fin 16 => atPos ER (dcell c x.1 x.2) 0 ∅ 0)
    (Ψ := fun x : Fin 4 × Fin 16 => reached ER (dcell c x.1 x.2) 0)) $$ H
  icases H' with ⟨Hat, #Hr⟩
  imodintro
  isplitr
  · iexists K; unfold ctx; isplitr; · iexact HK
    iexact Hr
  isplitl [HT]; · iexact HT
  isplitl [HC]; · iexact HC
  isplitl [HB]; · iexact HB
  unfold atStart; iexact Hat

theorem kit : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem above_staging (c : Dev nD) (t : Fin ((Pipeline.pin (pcfgs (F := F)) adm 0).N + 1)) (g : GSem nD τ sig) (i : Unit)
    (h : 0 < (pdats m 0 c).owed t g i) : i ∈ L g ∧ (0 : ℕ) < lv g i := by
  have e : (pdats m 0 c).owed t = if t.val = 0 then O₀ c else 0 := rfl
  rw [e] at h
  split at h
  · refine ⟨mem_L_of_owed h, ?_⟩
    rcases owed_pos h with ⟨r, -, rfl⟩ | ⟨r, -, rfl⟩ | ⟨r, -, rfl⟩
    · rw [show i = () from rfl, level_bar]; decide
    · rw [show i = () from rfl, level_dma]; decide
    · rw [show i = () from rfl, level_dma]; decide
  · exact absurd h (Nat.lt_irrefl 0)

theorem enter (c : Dev nD) : iprop(Pipeline.scopedRest (Pipeline.pin (pcfgs (F := F)) adm 0).spec c ∗ (∃ r, prngReg c r)
      ∗ StableHlo.held (c.tc : Thread nD τ) ∅ (V1 m c) ∗ before m c)
    ⊢ (pdats m 0 c).Φ 0 := by
  rw [show (pdats m 0 c).Φ 0 = _ from inv_first m c]
  unfold scratch
  iintro ⟨Hs, Hp, -, Hb⟩
  isplitl [Hb]; · iexact Hb
  isplitl [Hs]; · iapply (Entails.of_eq (scopedRest0_eq c)); iexact Hs
  iexact Hp

theorem leave (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) ∅ (V2 m (outs m) c) ∗ Pipeline.ownSems0 osem c ∗ semVal (barCell c) 0) := by
  rw [show (pdats m 0 c).Φ (Fin.last _) = _ from inv_last m c]
  unfold scratch after Pipeline.ownSems0
  iintro ⟨⟨Hs, Hb⟩, Hscr, Hp⟩
  isplitl [Hscr]; · iapply (Entails.of_eq (scopedRest0_eq c).symm); iexact Hscr
  isplitl [Hp]; · iexact Hp
  isplitr; · unfold StableHlo.held; rw [bigSep_empty]; iempintro
  isplitl [Hs]; · iexact Hs
  iexact Hb

/-- The buffers no window reads or writes. -/
abbrev restRefs : Finset (DevRef τ sig) := Pipeline.ucRefs τ sig \ Pipeline.arrRefs (τ := τ) (pcfgs (F := F) 0).spec

theorem out_mem : Proc.devRef .tc main_v15 ∈ Pipeline.arrRefs (τ := τ) (pcfgs (F := F) 0).spec :=
  Finset.mem_map.mpr ⟨_, Finset.mem_image.mpr ⟨5, Finset.mem_univ _, rfl⟩, rfl⟩

theorem rest_same (c : Dev nD) : ∀ b ∈ restRefs (F := F) \ ∅, V2 m (outs m) c b = V1 m c b := by
  intro b hb
  refine Function.update_of_ne (fun e => ?_) _ _
  subst e
  exact (Finset.mem_sdiff.mp (Finset.mem_sdiff.mp hb).1).2 (out_mem (F := F))

/-- The staging semaphores are at the lowest level. -/
theorem staging_level (c : Dev nD) (w : Fin cfg0.W) (s : Fin (cfg0.win w).nbuf) : lv ((c : Thread nD τ), .dma ((cfg0.win w).sem s)) () ≤ 0 := by
  show levelOf (.dma ((cfg0.win w).sem s)) ≤ 0
  revert s; revert w; decide

/-- The arrays after the run: the inputs unchanged, the output the result. -/
theorem left_arrays (c : Dev nD) (w : Fin cfg0.W) :
    (dat m c).arrAt w cfg0.N = V2 m (outs m) c (Proc.devRef .tc (Pipeline.arrRef (Pipeline.pin (pcfgs (F := F)) adm 0).spec w)) := by
  have e : ∀ r : Ref sig .tc, r ∉ ([main_v15] : List (Ref sig .tc)) → V1 m c r = V2 m (outs m) c r := fun r h => (V2_of m (outs m) c r h).symm
  match w with
  | 0 => exact ((dat m c).arrAt_in 0 rfl cfg0.N).trans (e main_arg0 (by decide))
  | 1 => exact ((dat m c).arrAt_in 1 rfl cfg0.N).trans (e main_arg1 (by decide))
  | 2 => exact ((dat m c).arrAt_in 2 rfl cfg0.N).trans (e main_v9 (by decide))
  | 3 => exact ((dat m c).arrAt_in 3 rfl cfg0.N).trans (e main_v14 (by decide))
  | 4 => exact ((dat m c).arrAt_in 4 rfl cfg0.N).trans (e main_arg4 (by decide))
  | 5 => exact (out_at_end m c).trans (V2_out m c).symm

set_option backward.isDefEq.respectTransparency.types false in
def region : Pipeline.RegionSeg (pcfgs (F := F)) adm (pdats m) () defs₀ 𝒱₀ L lv 0 :=
  Pipeline.RegionSeg.ofTalk (pcfgs (F := F)) adm (pdats m) () defs₀ 𝒱₀ L lv 0 osem (by decide : Pipeline.OwnSemFacts spec0 osem)
    ∅ (restRefs (F := F)) (Finset.empty_subset _) kit rfl (fun c => (body m c).loose)
    (fun _ => 0) O₀ (fun c => (owed_first m c).trans (zero_add _).symm) (owed_last m) (fun _ => rfl) (fun _ w => by fin_cases w <;> rfl)
    (V1 m) (V2 m (outs m)) (rest_same m)
    (entering m) (fun c => semVal (barCell c) 0) (before m) (fun c => semVal (barCell c) 0) (open_cells m) (enter m) (leave m)
    (fun c => by iintro H; imodintro; iexact H)
    (fun _ => 0)
    ⟨fun c w s => by rw [L_tc]; exact Finset.mem_singleton_self _, fun c w s => staging_level c w s, fun c t g i h => above_staging m c t g i h⟩
    (fun _ => iprop(emp))
    (fun c w => by fin_cases w <;> rfl)
    (fun c w => left_arrays m c w)

theorem staying : ∀ w, (Pipeline.arrRef (pcfgs (F := F) 0).spec w).isScoped = false :=
  (by decide : ∀ w : Fin 6, (Pipeline.arrRef spec0 w).isScoped = false)

theorem held_parts (c : Dev nD) (V : Valuation τ sig (Elt F)) :
    (StableHlo.held (c : Thread nD τ) (Pipeline.ucRefs τ sig) V : sProp 𝕄)
      = iprop(StableHlo.held (c : Thread nD τ) (Pipeline.arrRefs (τ := τ) (pcfgs (F := F) 0).spec) V ∗ StableHlo.held (c : Thread nD τ) (restRefs (F := F)) V) :=
  StableHlo.held_sub_split (c : Thread nD τ) (Pipeline.arrRefs_sub_ucRefs (pcfgs (F := F) 0).spec staying) V

/-- What rides beside the buffers up to the region, -/
def start (c : Dev nD) : sProp 𝕄 := iprop((entering m c ∗ ∃ r, prngReg c r) ∗ ∃ W, owes (c : Thread nD τ) (O₀ c) W)
/-- and after it. -/
def finish (c : Dev nD) : sProp 𝕄 := iprop(semVal (barCell c) 0 ∗ ∃ W, owes (c : Thread nD τ) (0 : CellTallies nD τ sig Unit) W)

theorem region_pre (c : Dev nD) : iprop(StableHlo.held (c : Thread nD τ) (Pipeline.ucRefs τ sig) (V1 m c) ∗ start m c) ⊢ (region m).pre c := by
  show _ ⊢ iprop(StableHlo.held (c.tc : Thread nD τ) (Pipeline.arrRefs (τ := τ) (pcfgs (F := F) 0).spec) (V1 m c) ∗ (∃ r, prngReg c r)
    ∗ (StableHlo.held (c.tc : Thread nD τ) (restRefs (F := F)) (V1 m c) ∗ emp) ∗ entering m c ∗ ∃ Wd, owes (c : Thread nD τ) (0 + O₀ c) Wd)
  rw [held_parts, zero_add]
  unfold start
  iintro ⟨⟨Ha, Hr⟩, ⟨He, Hp⟩, HO⟩
  isplitl [Ha]; · iexact Ha
  isplitl [Hp]; · iexact Hp
  isplitl [Hr]
  · isplitl [Hr]; · iexact Hr
    iempintro
  isplitl [He]; · iexact He
  iexact HO

theorem region_post (c : Dev nD) : (region m).post c ⊢ iprop(StableHlo.held (c : Thread nD τ) (Pipeline.ucRefs τ sig) (V2 m (outs m) c) ∗ finish c) := by
  show iprop(StableHlo.held (c.tc : Thread nD τ) (Pipeline.arrRefs (τ := τ) (pcfgs (F := F) 0).spec) (V2 m (outs m) c) ∗ (∃ r, prngReg c r)
    ∗ (StableHlo.held (c.tc : Thread nD τ) (restRefs (F := F)) (V2 m (outs m) c) ∗ emp) ∗ semVal (barCell c) 0
    ∗ ∃ Wd, owes (c : Thread nD τ) (0 : CellTallies nD τ sig Unit) Wd) ⊢ _
  rw [held_parts]
  unfold finish
  iintro ⟨Ha, -, ⟨Hr, -⟩, Hb, HO⟩
  isplitl [Ha Hr]
  · isplitl [Ha]; · iexact Ha
    iexact Hr
  isplitl [Hb]; · iexact Hb
  iexact HO

end Cert.KernelIdealProof

end
-- ==== Proof.KernelIdealRun.lean ====
/-
# The run of the program

The ghost state of the launch dealt to the devices, the credits the launch grants, and the run of the whole program: every weakly fair
execution ends, each argument unchanged, the output of every device the result, and every semaphore at zero.
-/
module

public import proofs.«01_k».proof.Proof.KernelIdealRegion

@[expose] public section

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Idealize.ShloMosaic.Transfers
open Idealize.ShloMosaic.ValueIdx
open Idealize.ShloMosaic.VecWindow

variable {F : FTy → Type} [FloatOps F] [Named F]

local notation "𝕄" => MT nD τ sig Unit (Elt F) ℕ UU ℕ

variable (m : (ℓ : Loc nD τ sig) → Buf (Elt F) ℓ) (ρ : Dev nD → PrngReg)

/-! ## The cells and the tokens -/

theorem osem_inj : Function.Injective osem := fun _ _ h => dsem_inj (SemLoc.dma.inj h)

def barEmb : Dev nD ↪ GSem nD τ sig := ⟨fun c => barCell c, fun _ _ h => congrArg (fun g : GSem nD τ sig => g.1.1) h⟩
def scEmb : Dev nD × Fin 4 × Fin 16 ↪ GSem nD τ sig :=
  ⟨fun cx => ((cx.1 : Thread nD τ), osem cx.2), fun _ _ h =>
    Prod.ext (congrArg (fun g : GSem nD τ sig => g.1.1) h) (osem_inj (congrArg Prod.snd h))⟩

abbrev barCells : Finset (GSem nD τ sig) := Finset.univ.map barEmb
abbrev scCells : Finset (GSem nD τ sig) := Finset.univ.map scEmb

/-- The five kinds of duty of device `c` towards its `r`-th peer: the signal, the two copies' sources, the two copies' landings. -/
def dutyOf (c : Dev nD) (r : Fin 15) : Fin 5 → GSem nD τ sig × Fin 16 := fun
  | 0 => (barCell (peer c r), c)
  | 1 => (dcell c 0 (dist r), 0)
  | 2 => (dcell (peer c r) 1 c, 0)
  | 3 => (dcell c 2 (dist r), 0)
  | 4 => (dcell (peer c r) 3 c, 0)

theorem duty_kind (c c' : Dev nD) (r r' : Fin 15) (j j' : Fin 5) (h : dutyOf c r j = dutyOf c' r' j') : j = j' ∧ c = c' ∧ r = r' := by
  have hs : (dutyOf c r j).1.2 = (dutyOf c' r' j').1.2 := by rw [h]
  have hd : (dutyOf c r j).1.1.1 = (dutyOf c' r' j').1.1.1 := by rw [h]
  have ht : (dutyOf c r j).2 = (dutyOf c' r' j').2 := by rw [h]
  have key : ∀ {f f' : Fin 4} {k k' : Fin 16}, (SemLoc.dma (dsem f k) : SemLoc sig) = .dma (dsem f' k') → f = f' ∧ k = k' := fun e =>
    Prod.ext_iff.mp (@osem_inj (_, _) (_, _) e)
  match j, j' with
  | 0, 0 =>
    have e : c = c' := ht
    subst e; exact ⟨rfl, rfl, peer_inj c hd⟩
  | 1, 1 =>
    have e : c = c' := hd
    exact ⟨rfl, e, peer_inj 0 (key hs).2⟩
  | 2, 2 =>
    obtain ⟨-, e⟩ := key hs
    subst e; exact ⟨rfl, rfl, peer_inj c hd⟩
  | 3, 3 =>
    have e : c = c' := hd
    exact ⟨rfl, e, peer_inj 0 (key hs).2⟩
  | 4, 4 =>
    obtain ⟨-, e⟩ := key hs
    subst e; exact ⟨rfl, rfl, peer_inj c hd⟩
  | 0, 1 | 0, 2 | 0, 3 | 0, 4 | 1, 0 | 2, 0 | 3, 0 | 4, 0 => exact nomatch hs
  | 1, 2 | 1, 3 | 1, 4 | 2, 1 | 2, 3 | 2, 4 | 3, 1 | 3, 2 | 3, 4 | 4, 1 | 4, 2 | 4, 3 => exact absurd (key hs).1 (by decide)

/-- Every duty's token, indexed by the device that performs it. -/
def talkToks : Finset (GSem nD τ sig × ℕ × Fin 16) :=
  Finset.univ.map ⟨fun x : Dev nD × Fin 5 × Fin 15 => ((dutyOf x.1 x.2.2 x.2.1).1, 0, (dutyOf x.1 x.2.2 x.2.1).2), fun x y h => by
    obtain ⟨h1, h2, h3⟩ := duty_kind x.1 y.1 x.2.2 y.2.2 x.2.1 y.2.1
      (Prod.ext (congrArg (fun t : GSem nD τ sig × ℕ × Fin 16 => t.1) h) (congrArg (fun t : GSem nD τ sig × ℕ × Fin 16 => t.2.2) h))
    exact Prod.ext h2 (Prod.ext h1 h3)⟩

theorem five (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ

theorem toks_eq : bigSep talkToks (fun x => (dutyTok ER x.1 x.2.1 x.2.2 : sProp 𝕄)) = bigSep Finset.univ fun c : Dev nD => iprop(SigToks c ∗ CopyToks c) := by
  unfold talkToks; rw [bigSep_map, bigSep_univ_prod]
  refine bigSep_congr fun c _ => ?_
  rw [bigSep_univ_prod, five]
  rfl

theorem disjoint_cells : Disjoint (barCells : Finset (GSem nD τ sig)) scCells := by
  rw [Finset.disjoint_left]
  rintro g h₁ h₂
  obtain ⟨c, -, rfl⟩ := Finset.mem_map.mp h₁
  obtain ⟨cx, -, h⟩ := Finset.mem_map.mp h₂
  exact nomatch (congrArg Prod.snd h : SemLoc.dma _ = SemLoc.reg _)

/-- What the launch element holds: the pipeline library's part, and the exchange's cells and tokens. -/
def u₀ : UU :=
  (initOf (Pipeline.cells cfgs cellOf_inj) (Pipeline.launchToks cfgs cellOf_inj), launchOf barCells scCells talkToks)

/-- A resource held by device 0 alone. -/
def onFirst (X : sProp 𝕄) (c : Dev nD) : sProp 𝕄 := if c = 0 then X else iprop(emp)
theorem bigSep_onFirst (X : sProp 𝕄) : bigSep Finset.univ (onFirst X) = X := by
  rw [bigSep_univ_at _ (0 : Dev nD), bigSep_congr (s := Finset.univ.erase (0 : Dev nD)) (Ψ := fun _ => (BI.emp : sProp 𝕄))
      fun c hc => by unfold onFirst; rw [if_neg (Finset.ne_of_mem_erase hc)]; rfl, BI.bigSep_emp_const]
  unfold onFirst; rw [if_pos rfl]
  exact BI.equiv_iff.mp sep_emp

def G : Dev nD → sProp 𝕄 := onFirst (BI.own (ER (launchOf barCells scCells talkToks)))

/-! ## What every device knows -/

/-- All the cells' invariants under one map of names, and round 0 of every barrier cell reached, -/
def cellRecords (κ : GSem nD τ sig → ℕ) : sProp 𝕄 :=
  iprop((bigSep (barCells ∪ scCells) fun g => cellInv ER (rd (parts m) (gathered m)) (κ g) g) ∗ bigSep barCells fun g => reached ER g 0)

instance cellRecords_persistent (κ : GSem nD τ sig → ℕ) : BI.Persistent (cellRecords m κ) := by unfold cellRecords; infer_instance

/-- and the levels. -/
def records (κ : GSem nD τ sig → ℕ) : sProp 𝕄 := iprop(cellRecords m κ ∗ levAts L lv)

instance records_persistent (κ : GSem nD τ sig → ℕ) : BI.Persistent (records m κ) := by unfold records; infer_instance

theorem record_bar (κ : GSem nD τ sig → ℕ) (p : Dev nD) :
    cellRecords m κ ⊢ iprop(cellInv ER (rd (parts m) (gathered m)) (κ (barCell p)) (barCell p) ∗ reached ER (barCell p) 0) := by
  unfold cellRecords
  iintro ⟨#HI, #HR⟩
  isplitr
  · iapply (show (bigSep (barCells ∪ scCells) fun g => cellInv ER (rd (parts m) (gathered m)) (κ g) g)
      ⊢ (cellInv ER (rd (parts m) (gathered m)) (κ (barCell p)) (barCell p) : sProp 𝕄) from
      bigSep_elim (Finset.mem_union_left _ (Finset.mem_map_of_mem barEmb (Finset.mem_univ p))))
    iexact HI
  · iapply (show (bigSep barCells fun g => reached ER g 0) ⊢ (reached ER (barCell p) 0 : sProp 𝕄) from
      bigSep_elim (Finset.mem_map_of_mem barEmb (Finset.mem_univ p)))
    iexact HR

theorem record_copy (κ : GSem nD τ sig → ℕ) (x : Dev nD × Fin 4 × Fin 16) :
    cellRecords m κ ⊢ cellInv ER (rd (parts m) (gathered m)) (κ (dcell x.1 x.2.1 x.2.2)) (dcell x.1 x.2.1 x.2.2) := by
  unfold cellRecords
  iintro ⟨#HI, -⟩
  iapply (show (bigSep (barCells ∪ scCells) fun g => cellInv ER (rd (parts m) (gathered m)) (κ g) g)
    ⊢ (cellInv ER (rd (parts m) (gathered m)) (κ (dcell x.1 x.2.1 x.2.2)) (dcell x.1 x.2.1 x.2.2) : sProp 𝕄) from
    bigSep_elim (Finset.mem_union_right _ (Finset.mem_map_of_mem scEmb (Finset.mem_univ x))))
  iexact HI

theorem known_intro (κ : GSem nD τ sig → ℕ) : records m κ ⊢ known (parts m) (gathered m) κ := by
  unfold records known
  iintro ⟨#HR, #HL⟩
  isplitr; · iexact HL
  isplitr
  · iapply (bigSep_intro_persistent (R := cellRecords m κ) fun p _ => record_bar m κ p)
    iexact HR
  · iapply (bigSep_intro_persistent (R := cellRecords m κ) fun x _ => record_copy m κ x)
    iexact HR

/-! ## The credits of the launch -/

theorem dueFrom_zero (g : Fin 15 → Tallies) (x : GSem nD τ sig) : dueFrom g 0 x () = ∑ r, g r x () := by
  unfold dueFrom
  rw [Finset.sum_apply, Finsupp.finset_sum_apply]
  refine Finset.sum_congr ?_ fun _ _ => rfl
  unfold from_
  exact Finset.filter_true_of_mem fun _ _ => Nat.zero_le _

theorem tally_apply (g x : GSem nD τ sig) (k : ℕ) : (tallyAt g () k : Tallies) x () = if x = g then k else 0 := by
  rw [tallyAt_apply]
  by_cases h : x = g
  · rw [if_pos ⟨h, rfl⟩, if_pos h]
  · rw [if_neg fun hh => h hh.1, if_neg h]

theorem bar_eq (c c' : Dev nD) : barCell c = barCell c' ↔ c = c' := ⟨fun h => congrArg (fun g : GSem nD τ sig => g.1.1) h, fun h => by rw [h]⟩
theorem copy_eq (c c' : Dev nD) (f f' : Fin 4) (k k' : Fin 16) : dcell c f k = dcell c' f' k' ↔ c = c' ∧ f = f' ∧ k = k' :=
  ⟨fun h => by
    have e := Prod.ext_iff.mp (@osem_inj (f, k) (f', k') (congrArg Prod.snd h))
    exact ⟨congrArg (fun g : GSem nD τ sig => g.1.1) h, e.1, e.2⟩, by rintro ⟨rfl, rfl, rfl⟩; rfl⟩
theorem bar_ne_copy (c c' : Dev nD) (f : Fin 4) (k : Fin 16) : barCell c ≠ dcell c' f k := fun h => nomatch (congrArg Prod.snd h : SemLoc.reg _ = SemLoc.dma _)

theorem owed_bar (d c : Dev nD) : O₀ d (barCell c) () = ∑ r, if c = peer d r then 1 else 0 := by
  unfold O₀ owed
  simp only [Pi.add_apply, Finsupp.add_apply, dueFrom_zero, barDue, landDue, tally_apply, bar_eq, bar_ne_copy, if_false, Finset.sum_const_zero, Nat.add_zero]

theorem owed_copy (d c : Dev nD) (f : Fin 4) (k : Fin 16) :
    O₀ d (dcell c f k) () = (∑ r, if c = peer d r ∧ f = 1 ∧ k = d then N else 0) + ∑ r, if c = peer d r ∧ f = 3 ∧ k = d then N else 0 := by
  unfold O₀ owed
  simp only [Pi.add_apply, Finsupp.add_apply, dueFrom_zero, barDue, landDue, tally_apply, copy_eq, (bar_ne_copy _ _ _ _).symm, if_false, Finset.sum_const_zero, Nat.zero_add]

theorem signals_in (c : Dev nD) : (∑ d : Dev nD, ∑ r, if c = peer d r then 1 else 0) = 15 := by revert c; decide +kernel

theorem sends_in (c : Dev nD) (r : Fin 15) : (∑ d : Dev nD, ∑ r', if c = peer d r' ∧ peer c r = d then N else 0) = N := by
  have h : ∀ (c : Dev nD) (r : Fin 15), (∑ d : Dev nD, ∑ r', if c = peer d r' ∧ peer c r = d then 1 else 0) = 1 := by decide +kernel
  calc (∑ d : Dev nD, ∑ r', if c = peer d r' ∧ peer c r = d then N else 0)
      = (∑ d : Dev nD, ∑ r', if c = peer d r' ∧ peer c r = d then 1 else 0) * N := by
        simp only [Finset.sum_mul, ite_mul, Nat.one_mul, Nat.zero_mul]
    _ = N := by rw [h, Nat.one_mul]

theorem launch_bar (c : Dev nD) :
    tallyOn (barCell c) (launchCredit (Pipeline.owing O₀) 0 (barCell c)) = (tallyAt (barCell c) () 15 : Tallies) := by
  unfold tallyAt; refine congrArg _ (Finsupp.ext fun u => ?_); cases u
  rw [Pipeline.launchCredit_owing, Finsupp.single_eq_same, Finset.sum_congr rfl fun d _ => owed_bar d c, signals_in]

theorem launch_copy (c : Dev nD) (f : Fin 4) (hf : f = 1 ∨ f = 3) (r : Fin 15) :
    tallyOn (dcell c f (peer c r)) (launchCredit (Pipeline.owing O₀) 0 (dcell c f (peer c r))) = (tallyAt (dcell c f (peer c r)) () N : Tallies) := by
  unfold tallyAt; refine congrArg _ (Finsupp.ext fun u => ?_); cases u
  rw [Pipeline.launchCredit_owing, Finsupp.single_eq_same, Finset.sum_congr rfl fun d _ => owed_copy d c f (peer c r), Finset.sum_add_distrib]
  rcases hf with rfl | rfl
  · rw [show (∑ d : Dev nD, ∑ r', if c = peer d r' ∧ (1 : Fin 4) = 3 ∧ peer c r = d then N else 0) = 0 from
      Finset.sum_eq_zero fun _ _ => Finset.sum_eq_zero fun _ _ => if_neg fun h => absurd h.2.1 (by decide), Nat.add_zero]
    simpa only [true_and] using sends_in c r
  · rw [show (∑ d : Dev nD, ∑ r', if c = peer d r' ∧ (3 : Fin 4) = 1 ∧ peer c r = d then N else 0) = 0 from
      Finset.sum_eq_zero fun _ _ => Finset.sum_eq_zero fun _ _ => if_neg fun h => absurd h.2.1 (by decide), Nat.zero_add]
    simpa only [true_and] using sends_in c r

/-- The landing semaphores of device `c`. -/
def landEmb (c : Dev nD) : Fin 2 × Fin 15 ↪ SemLoc sig :=
  ⟨fun x => osem (if x.1 = 0 then 1 else 3, peer c x.2), fun x y h => by
    have e := Prod.ext_iff.mp (osem_inj h)
    refine Prod.ext ?_ (peer_inj c e.2)
    have h2 : ∀ a b : Fin 2, (if a = 0 then (1 : Fin 4) else 3) = (if b = 0 then 1 else 3) → a = b := by decide
    exact h2 _ _ e.1⟩

theorem land_ne (c : Dev nD) (x : Fin 2 × Fin 15) : landEmb c x ≠ SemLoc.reg barS := fun h => by
  have e : (SemLoc.dma (dsem (if x.1 = 0 then 1 else 3) (peer c x.2)) : SemLoc sig) = SemLoc.reg barS := h
  cases e

theorem creds (c : Dev nD) :
    (Pipeline.launchCred O₀ c : sProp 𝕄) ⊢ iprop(cred (tallyAt (barCell c) () 15) ∗ Coming c 1 ∗ Coming c 3) := by
  unfold Pipeline.launchCred
  rw [bigSep_univ_at _ (SemLoc.reg barS), launch_bar]
  refine sep_mono_right ?_
  refine (bigSep_subset (t := Finset.univ.map (landEmb c)) fun s hs => ?_).trans ?_
  · obtain ⟨x, -, rfl⟩ := Finset.mem_map.mp hs
    exact Finset.mem_erase.mpr ⟨land_ne c x, Finset.mem_univ _⟩
  · rw [bigSep_map, bigSep_univ_prod, BI.bigSep_fin_two]
    unfold Coming
    refine sep_mono ?_ ?_
    · exact bigSep_mono fun r _ => Entails.of_eq (congrArg cred (launch_copy c 1 (.inl rfl) r))
    · exact bigSep_mono fun r _ => Entails.of_eq (congrArg cred (launch_copy c 3 (.inr rfl) r))

/-! ## The launch -/

theorem unscopedSems_eq (c : Dev nD) : (unscopedSems0 c : sProp 𝕄) = semVal (barCell c) 0 := by
  unfold unscopedSems0
  rw [show (Finset.univ.filter fun sm : SemLoc sig => ¬ sm.isScoped .tc) = {SemLoc.reg barS} from by decide +kernel, BI.bigSep_singleton]

/-- What stays with device `c` of the ghost state: its place at its barrier cell, its rights to open, the tokens of its duties. -/
def linear (c : Dev nD) : sProp 𝕄 :=
  iprop(atPos ER (barCell c) 0 ∅ 0 ∗ (bigSep Finset.univ fun x : Fin 4 × Fin 16 => openTok ER (dcell c x.1 x.2)) ∗ (SigToks c ∗ CopyToks c))
/-- The rest of what the launch hands it. -/
def bundle (c : Dev nD) : sProp 𝕄 :=
  iprop(StableHlo.held (c : Thread nD τ) (Pipeline.ucRefs τ sig) (V0 m c) ∗ (cred (tallyAt (barCell c) () 15) ∗ Coming c 1 ∗ Coming c 3)
    ∗ owes (c : Thread nD τ) (O₀ c) ∅ ∗ ∃ r, prngReg c r)

/-- The state before the host operations, -/
abbrev T₀ (c : Dev nD) : sProp 𝕄 := iprop(StableHlo.held (c : Thread nD τ) (Pipeline.ucRefs τ sig) (V0 m c) ∗ start m c)
/-- and at the end. -/
abbrev Tₙ (c : Dev nD) : sProp 𝕄 := iprop(StableHlo.held (c : Thread nD τ) (Pipeline.ucRefs τ sig) (V2 m (outs m) c) ∗ semVal (barCell c) 0)

theorem T₀_intro (κ : GSem nD τ sig → ℕ) (c : Dev nD) : iprop(records m κ ∗ (linear c ∗ bundle m c)) ⊢ T₀ m c := by
  unfold bundle T₀ start entering linear
  iintro ⟨#HR, ⟨Hat, Hop, Htok⟩, Hh, HC, HO, Hp⟩
  isplitl [Hh]; · iexact Hh
  isplitr [HO]
  · isplitr [Hp]
    · isplitl [Hop]
      · iexists κ
        isplitr; · iapply (known_intro m κ); iexact HR
        iexact Hop
      isplitl [Htok]; · iexact Htok
      isplitl [HC] <;> iassumption
    · iexact Hp
  · iexists ∅; iexact HO

theorem core_split (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ G c)
      ⊢ (iprop(bundle m c ∗ (semVal (barCell c) 0 ∗ G c)) : sProp 𝕄) := by
  rw [show unscopedBufs c (fun b => m ((c : Thread nD τ).loc b)) = StableHlo.held (c : Thread nD τ) (Pipeline.ucRefs τ sig) (V0 m c)
    from Pipeline.unscopedBufs_held c (V0 m c), unscopedSems_eq]
  unfold bundle
  iintro ⟨Hh, Hus, HO, Hcr, Hp, HG⟩
  ihave Hc := (creds (F := F) c) $$ Hcr
  isplitl [Hh Hc HO Hp]
  · isplitl [Hh]; · iexact Hh
    isplitl [Hc]; · iexact Hc
    isplitl [HO]; · iexact HO
    iexists (ρ c); iexact Hp
  isplitl [Hus] <;> iassumption

/-- Everything dealt: the cells' invariants made, and each device handed its share. -/
theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hopen : bigSep scCells (fun g => (openTok ER g : sProp 𝕄))
      ⊢ bigSep Finset.univ (fun c : Dev nD => bigSep Finset.univ fun x : Fin 4 × Fin 16 => (openTok ER (dcell c x.1 x.2) : sProp 𝕄)) :=
    Entails.of_eq (by rw [bigSep_map, bigSep_univ_prod]; rfl)
  iintro ⟨H, #Hlev⟩
  ihave H' := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (bigSep Finset.univ fun c : Dev nD => iprop(bundle m c ∗ (semVal (barCell c) 0 ∗ G c)) : sProp 𝕄) from bigSep_mono fun c _ => core_split m ρ c) $$ H
  ihave H2 := (unzip_sep _ _ _) $$ H'; icases H2 with ⟨HB, H3⟩
  ihave H4 := (unzip_sep _ _ _) $$ H3; icases H4 with ⟨Hv, HG⟩
  ihave Hu := (show bigSep Finset.univ (G (F := F)) ⊢ BI.own (ER (launchOf barCells scCells talkToks)) from
    Entails.of_eq (bigSep_onFirst (F := F) (BI.own (ER (launchOf barCells scCells talkToks))))) $$ HG
  imod (Rounds.fund_launch ER (rd (parts m) (gathered m)) disjoint_cells (fun g _ h => h) talkToks) $$ [Hv Hu] with ⟨%κ, -, #Hinv, #Hr, Hat, Hopen, Htok⟩
  · isplitl [Hv]
    · iapply hv $$ Hv
    · iexact Hu
  imodintro
  iapply (bigSep_with_persistent (R := records m κ) (Φ := fun c => iprop(linear c ∗ bundle m c)) fun c _ => T₀_intro m κ c)
  isplitr
  · unfold records cellRecords
    isplitr
    · isplitr; · iexact Hinv
      iexact Hr
    iexact Hlev
  iapply (zip_sep _ _ _)
  isplitr [HB]
  · unfold linear
    iapply (zip_sep _ _ _); isplitl [Hat]; · iapply hat $$ Hat
    iapply (zip_sep _ _ _); isplitl [Hopen]; · iapply hopen $$ Hopen
    iapply (Entails.of_eq (toks_eq (F := F))) $$ Htok
  · iexact HB

/-! ## The run -/

theorem unscoped_eq : ∀ sm : SemLoc sig, sm.isScoped .tc = false → sm = .reg barS := by decide +kernel

/-- What rides beside the buffers before the region and after it. -/
def beside : Fin 2 → Dev nD → sProp 𝕄 := fun
  | 0 => start m
  | 1 => finish

theorem last_state (c : Dev nD) : (region m).post c ⊢ iprop(Tₙ m c ∗ ∃ W, owes (c : Thread nD τ) (0 : CellTallies nD τ sig Unit) W) := by
  refine (region_post m c).trans ?_
  unfold finish
  iintro ⟨Hh, Hb, HO⟩
  isplitr [HO]
  · isplitl [Hh] <;> iassumption
  · iexact HO

/-- What a final state shows of device `c`. -/
def Shows (c : Dev nD) (s : MemSt nD τ sig (Elt F)) : Prop :=
  (s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4))
    ∧ s.mem ((c.tc : Thread nD τ).loc main_v15) = result m ∧ s.sem (barCell c) = 0

theorem shown (c : Dev nD) (s' : Phys nD τ sig (Elt F)) : iprop(Tₙ m c ∗ SI s') ⊢ |={Set.univ}=> iprop(⌜Shows m c s'.mem⌝ ∗ SI s') := by
  unfold Tₙ StableHlo.held
  iintro ⟨⟨Hh, Hb⟩, HSI⟩
  icombine HSI Hb gives %hb
  ihave Hr := (pointsTo_read_all (Pipeline.ucRefs τ sig) (fun b => ((c : Thread nD τ).1, b)) (V2 m (outs m) c) s') $$ [Hh HSI]
  · isplitl [Hh] <;> iassumption
  icases Hr with ⟨%h, HSI⟩
  imodintro
  isplitr
  · ipureintro
    have rd : ∀ r : Ref sig .tc, r.isScoped = false → s'.mem.mem ((c.tc : Thread nD τ).loc r) = V2 m (outs m) c r := fun r hr =>
      h (Proc.devRef .tc r) (Finset.mem_filter.mpr ⟨StableHlo.devRef_mem_tcRefs r, by simpa using hr⟩)
    exact ⟨⟨(rd main_arg0 (by decide)).trans (V2_main_arg0 m (outs m) c), (rd main_arg1 (by decide)).trans (V2_main_arg1 m (outs m) c),
      (rd main_arg2 (by decide)).trans (V2_main_arg2 m (outs m) c), (rd main_arg3 (by decide)).trans (V2_main_arg3 m (outs m) c),
      (rd main_arg4 (by decide)).trans (V2_main_arg4 m (outs m) c)⟩, (rd main_v15 (by decide)).trans (V2_out m c), by simpa using hb⟩
  · iexact HSI

set_option backward.isDefEq.respectTransparency.types false in
/-- The run: every weakly fair execution ends, each argument as launched, every device's output the result, every semaphore at zero. -/
theorem run : θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.mem ((c.tc : Thread nD τ).loc main_v15) = result m) ∧ r.2.sem = fun _ => 0) :=
  Pipeline.θ_run_regions_kit_dev_sems (pcfgs (F := F)) adm (pdats m) () cellOf_inj EP defs₀ 𝒱₀ L lv m ρ main
    (segs m 𝒱₀ L lv (beside m) () (pdats m) (region m))
    (fun c Q => by
      rewrite [main_chain c, Pipeline.Seg.run_eq_chain,
        show (segs m 𝒱₀ L lv (beside m) () (pdats m) (region m) c).map Pipeline.Seg.prog = [
          StableHlo.seq (hostOps0 c),
          Prog.lift (.customCall (Pipeline.entry 0) ()) ] from rfl]
      dsimp (config := { failIfUnchanged := false }) only
      exact .rfl)
    (fun c => by simp only [segs, Pipeline.Seg.pipes_host, Pipeline.Seg.pipes_region, Pipeline.Seg.pipes_nil]; decide) O₀ L_of_ne (G (F := F)) u₀
    (by
      unfold u₀ G
      iintro Hu
      ihave H := (ownU_pair _ _) $$ Hu
      icases H with ⟨HP, HX⟩
      imodintro
      isplitl [HP]; · iexact HP
      rw [bigSep_onFirst]; iexact HX)
    (T₀ m) (Tₙ m)
    (fun c => ⟨.rfl, region_pre m c, last_state m c⟩)
    (init m ρ) (Shows m) (shown m)
    (fun s h hs => ⟨fun c => ⟨(h c).1, (h c).2.1⟩, sem_eq_zero hs fun c sm hsm => by
      obtain rfl := unscoped_eq sm hsm
      exact (h c).2.2⟩)

end Cert.KernelIdealProof

end
-- ==== Proof.Frames.lean ====
/-
  The three programs run to the end from any memory, leave their argument arrays as they were and every semaphore at zero;
  and the mask constant the idealized kernel names stands for minus infinity. Both runs of the kernel are the run theorem
  of KernelRun / KernelIdealRun with what it says of the result forgotten.
-/
module

public import proofs.«01_k».proof.Defs
public import proofs.«01_k».proof.Proof.KernelRun
public import proofs.«01_k».proof.Proof.KernelIdealRun
public import proofs.«01_k».proof.Proof.Gen.ReferenceIdeal.Run
public import Idealize.ShloMosaic.Lib.Quiescent

@[expose] public section

noncomputable section

namespace Cert.Proof.Frames

open Idealize.ShloMosaic Idealize.ShloMosaic.TcCoe Idealize.SL.Sem

/-- The kernel as written runs, its arguments kept. -/
theorem kernel : Cert.quiescent_Kernel := fun m ρ _ =>
  (θ_run Cert.Kernel.defs _ _).mono (fun _ h => ⟨fun c => (h.1 c).1, h.2⟩)
    (Cert.KernelProof.run (F := Bits) m ρ)

/-- The kernel over the extended reals runs, its arguments kept. -/
theorem kernelIdeal : Cert.quiescent_KernelIdeal := fun m ρ _ =>
  (θ_run Cert.KernelIdeal.defs _ _).mono (fun _ h => ⟨fun c => (h.1 c).1, h.2⟩)
    (Cert.KernelIdealProof.run (F := Ideal) m ρ)

/-- The reference runs, its arguments kept; it has no semaphore. -/
theorem reference : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The named mask: the literal −10⁹ stands for −∞. -/
theorem preserves : Cert.preserves_Kernel_KernelIdeal :=
  IdealRules.named_const.statement Cert.KernelIdeal.κ "mask" .f32 0xCE6E6B28#32 ⊥ rfl

end Cert.Proof.Frames

end
-- ==== Proof.Softmax.lean ====
/-
# Two ways to write the same attention weights

One program scales the scores before its product, adds minus infinity to a score that is masked out and divides the exponentials by their sum. The
other scales afterwards, replaces a masked score by minus infinity, and subtracts the row's largest score first. Over the extended reals the weights are
the same wherever the scores are real numbers and the row keeps at least one of them.
-/
module

public import Idealize.ShloMosaic.PureOps.Ideal
public import Idealize.ShloMosaic.PureOps.Ideal.Laws
public import Idealize.ShloMosaic.Lib.IdealHost

@[expose] public section

noncomputable section

namespace Cert.Softmax

open Idealize.ShloMosaic

/-- A sum of reals, read in the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- An extended real that is a real number. -/
def IsReal (x : EReal) : Prop := ∃ r : ℝ, x = (r : EReal)

theorem isReal_coe (r : ℝ) : IsReal (r : EReal) := ⟨r, rfl⟩

theorem isReal_of_abs_lt_top {x : EReal} (h : max x (-x) < ⊤) : IsReal x := by
  refine ⟨x.toReal, (EReal.coe_toReal ?_ ?_).symm⟩
  · rintro rfl; simp at h
  · rintro rfl; simp at h

variable {n : ℕ}

/-- The largest of a row's kept scores is a real number. -/
theorem isReal_rowMax (s : Fin n → ℝ) (p : Fin n → Prop) [DecidablePred p] (i : Fin n) (hi : p i) :
    IsReal (Finset.univ.fold max (⊥ : EReal) fun j => if p j then (s j : EReal) else ⊥) := by
  refine ⟨EReal.toReal _, (EReal.coe_toReal (ne_of_lt ?_) (ne_of_gt ?_)).symm⟩
  · refine (Finset.fold_max_lt _).2 ⟨bot_lt_top, fun j _ => ?_⟩
    split_ifs
    · exact EReal.coe_lt_top _
    · exact bot_lt_top
  · refine (Finset.lt_fold_max _).2 (Or.inr ⟨i, Finset.mem_univ _, ?_⟩)
    rw [if_pos hi]
    exact EReal.bot_lt_coe _

/-- The weight of entry `j`: added mask and plain quotient, against replaced score, subtracted shift and quotient. -/
theorem weight_eq (s : Fin n → ℝ) (p : Fin n → Prop) [DecidablePred p] (i : Fin n) (hi : p i) {M : EReal} (hM : IsReal M) (j : Fin n) :
    Ideal.div (Ideal.exp ((s j : EReal) + if p j then 0 else ⊥)) (∑ t, Ideal.exp ((s t : EReal) + if p t then 0 else ⊥))
      = Ideal.div (Ideal.exp ((if p j then (s j : EReal) else ⊥) - M)) (∑ t, Ideal.exp ((if p t then (s t : EReal) else ⊥) - M)) := by
  obtain ⟨μ, rfl⟩ := hM
  have ha : ∀ t, Ideal.exp ((s t : EReal) + if p t then 0 else ⊥) = ((if p t then Real.exp (s t) else 0 : ℝ) : EReal) := by
    intro t
    split_ifs
    · rw [add_zero]; rfl
    · rw [EReal.add_bot]; rfl
  have hb : ∀ t, Ideal.exp ((if p t then (s t : EReal) else ⊥) - (μ : EReal)) = (((if p t then Real.exp (s t) else 0) * Real.exp (-μ) : ℝ) : EReal) := by
    intro t
    split_ifs
    · rw [← EReal.coe_sub, Ideal.exp_coe, sub_eq_add_neg, Real.exp_add]
    · rw [sub_eq_add_neg, EReal.bot_add, zero_mul]; rfl
  have hpos : 0 < ∑ t, (if p t then Real.exp (s t) else 0) :=
    Finset.sum_pos' (fun t _ => by split_ifs; exacts [(Real.exp_pos _).le, le_rfl]) ⟨i, Finset.mem_univ _, by rw [if_pos hi]; exact Real.exp_pos _⟩
  simp only [ha, hb, ← coe_sum, ← Finset.sum_mul]
  rw [Ideal.div_coe hpos.ne', Ideal.div_coe (mul_pos hpos (Real.exp_pos _)).ne', ← EReal.coe_mul, ← EReal.coe_mul]
  congr 1
  have := (Real.exp_pos (-μ)).ne'
  have := hpos.ne'
  field_simp

/-- A score: the query's weights scaled first, or the score scaled at the end; a real number either way. -/
theorem score_eq {d e : ℕ} (x : Fin d → EReal) (w : Fin d → Fin e → EReal) (k : Fin e → EReal) (hx : ∀ i, IsReal (x i)) (hw : ∀ i j, IsReal (w i j)) (hk : ∀ j, IsReal (k j))
    {σ : EReal} (hσ : IsReal σ) :
    (∑ j, (∑ i, x i * (w i j * σ)) * k j) = (∑ j, (∑ i, x i * w i j) * k j) * σ ∧ IsReal ((∑ j, (∑ i, x i * w i j) * k j) * σ) := by
  choose x' hx using hx
  choose w' hw using hw
  choose k' hk using hk
  obtain ⟨σ', rfl⟩ := hσ
  simp only [hx, hw, hk, ← EReal.coe_mul, ← coe_sum]
  refine ⟨congrArg _ ?_, isReal_coe _⟩
  rw [Finset.sum_mul]
  refine Finset.sum_congr rfl fun j _ => ?_
  rw [show (∑ i, x' i * (w' i j * σ')) = (∑ i, x' i * w' i j) * σ' from by rw [Finset.sum_mul]; exact Finset.sum_congr rfl fun i _ => by ring]
  ring

/-- One eighth, in both formats. -/
theorem eighth_bf16 : Ideal.ofBits .bf16 0x3E00#16 = (((1 : ℝ) / 8 : ℝ) : EReal) := by
  simp [Ideal.ofBits, Ideal.ieee, -EReal.coe_mul]; norm_num
theorem eighth_f32 : Ideal.ofBits .f32 0x3E000000#32 = (((1 : ℝ) / 8 : ℝ) : EReal) := by
  simp [Ideal.ofBits, Ideal.ieee, -EReal.coe_mul]; norm_num
/-- The infinities. -/
theorem minusInf_f32 : Ideal.ofBits .f32 0xFF800000#32 = ⊥ := by
  simp [Ideal.ofBits, Ideal.ieee]
theorem inf_bf16 : Ideal.ofBits .bf16 0x7F80#16 = ⊤ := by
  simp [Ideal.ofBits, Ideal.ieee]

end Cert.Softmax

end
-- ==== Proof.KernelIdealValue.lean ====
/-
# The kernel's values, entry by entry

Over the extended reals every buffer the kernel fills is a sum of products. Here each is read at one entry.
-/
module

public import proofs.«01_k».proof.Proof.KernelIdealRun
public import proofs.«01_k».proof.Proof.Softmax
public import Idealize.ShloMosaic.Lib.Pointwise

@[expose] public section

set_option maxRecDepth 16384

noncomputable section

namespace Cert.KernelIdealProof

open Cert.KernelIdeal Cert.KernelIdeal.Gen
open Idealize.ShloMosaic Idealize.ShloMosaic.TcCoe
open Idealize.ShloMosaic.VecWindow

namespace Inputs

variable (I : Inputs Ideal)

/-- One entry of a tile: the weights of query row `i` over the 256 keys, times the values. -/
def tileAt (q : FVec Ideal S512x256 .bf16) (mk : FVec Ideal S256x256 .f32) (kk vv : FVec Ideal S256x256 .bf16) (b : Fin 2) (h : Fin 4) (i : Fin 256) (d : Fin 64) : EReal :=
  ∑ j : Fin 256, Ideal.div
      (Ideal.exp ((∑ e : Fin 64, q (ix2 ⟨256 * b.val + i.val, by omega⟩ ⟨64 * h.val + e.val, by omega⟩) * kk (ix2 j ⟨64 * h.val + e.val, by omega⟩)) + mk (ix2 i j)))
      (∑ t : Fin 256, Ideal.exp ((∑ e : Fin 64, q (ix2 ⟨256 * b.val + i.val, by omega⟩ ⟨64 * h.val + e.val, by omega⟩) * kk (ix2 t ⟨64 * h.val + e.val, by omega⟩)) + mk (ix2 i t)))
    * vv (ix2 j ⟨64 * h.val + d.val, by omega⟩)

theorem tile_apply (b : Fin 2) (h : Fin 4) (i : Fin 256) (d : Fin 64) :
    I.tile b h (ix2 i d) = tileAt I.q mask (k0_pay10 (match b with | 0 => I.k₀ | 1 => I.k₁)) (k0_pay11 (match b with | 0 => I.v₀ | 1 => I.v₁)) b h i d := by
  unfold tileAt mask
  match b, h with
  | 0, 0 => dsimp only [tile]; pointwise [k0_pay12]
  | 0, 1 => dsimp only [tile]; pointwise [k0_pay13, k0_pay14]
  | 0, 2 => dsimp only [tile, mask]; pointwise [k0_pay15]
  | 0, 3 => dsimp only [tile, mask]; pointwise [k0_pay16]
  | 1, 0 => dsimp only [tile, mask]; pointwise [k0_pay20, k0_pay17, k0_pay18, k0_pay19, k0_pay10, k0_pay11]
  | 1, 1 => dsimp only [tile, mask]; pointwise [k0_pay21, k0_pay17, k0_pay18, k0_pay10, k0_pay11]
  | 1, 2 => dsimp only [tile, mask]; pointwise [k0_pay22, k0_pay23, k0_pay17, k0_pay18, k0_pay10, k0_pay11]
  | 1, 3 => dsimp only [tile, mask]; pointwise [k0_pay24, k0_pay17, k0_pay18, k0_pay10, k0_pay11]

/-- One entry of the scaled query. -/
theorem q_apply (r : Fin 512) (t : Fin 256) :
    I.q (ix2 r t) = ∑ k : Fin 512, I.x (ix3 ⟨r.val / 256, by omega⟩ ⟨r.val % 256, by omega⟩ k) * (I.wq (ix2 k t) * Ideal.ofBits .bf16 0x3E00#16) := by
  unfold q
  pointwise [k0_pay3]

/-- The block of 64 rows a row is in, as the kernel computes it. -/
theorem rowBlock_apply (i j : Fin 256) : rowBlock (ix2 i j) = BitVec.ofNat 32 (i.val / 64) := by
  unfold rowBlock
  pointwise [k0_pay5, k0_pay4]
  revert i
  decide +kernel

theorem colBlock_apply (i j : Fin 256) : select k0_pay7 k0_pay8 k0_pay6 (ix2 i j) = BitVec.ofNat 32 (j.val / 64) := by
  pointwise [k0_pay6, k0_pay7, k0_pay8]
  revert j
  decide +kernel

theorem mask_apply (i j : Fin 256) : mask (F := Ideal) (ix2 i j) = if i.val / 64 = j.val / 64 then 0 else ⊥ := by
  have h := colBlock_apply i j
  unfold mask
  pointwise [k0_pay9]
  rw [rowBlock_apply, show Scalar.select (k0_pay7 (ix2 i j)) (k0_pay8 (ix2 i j)) (k0_pay6 (ix2 i j)) = BitVec.ofNat 32 (j.val / 64) from h,
    show (Named.named κ "mask" 0xCE6E6B28#32 : Ideal .f32) = ⊥ from IdealRules.named_const.ideal_named_scalar κ "mask" (φ := .f32) 0xCE6E6B28#32 ⊥ rfl]
  have key : ∀ a b : Fin 4, Scalar.select (IntOp.cmpi .eq (BitVec.ofNat 32 a.val) (BitVec.ofNat 32 b.val)) (0 : EReal) ⊥ = if a.val = b.val then 0 else ⊥ := by
    intro a b
    have : IntOp.cmpi .eq (BitVec.ofNat 32 a.val) (BitVec.ofNat 32 b.val) = if a.val = b.val then 1#1 else 0#1 := by revert a b; decide
    rw [this]
    split_ifs <;> rfl
  exact key ⟨i.val / 64, by omega⟩ ⟨j.val / 64, by omega⟩

theorem acc_apply (r n : Fin 512) : I.acc (ix2 r n) = ∑ t : Fin 256, I.context (ix2 r t) * I.wo (ix2 t n) := by
  unfold acc
  pointwise [k0_pay26, k0_pay25, k0_pay2]

theorem part_apply (r n : Fin 512) : I.part (ix2 r n) = I.acc (ix2 r n) := by
  unfold part acc
  pointwise [k0_pay27, k0_pay26]

/-- The keys of one batch, the four heads side by side. -/
theorem keys_apply (b : Fin 2) (h : Fin 4) (j : Fin 256) (e : Fin 64) :
    k0_pay10 (match b with | 0 => I.k₀ | 1 => I.k₁) (ix2 j ⟨64 * h.val + e.val, by omega⟩) = I.k (ix4 b j h e) := by
  match b with
  | 0 =>
    dsimp only [k₀]; pointwise [k0_pay10, window]
    refine congrArg I.k (funext fun a => Fin.ext ?_)
    fin_cases a
    exacts [rfl, show 0 + 1 * j.val = j.val by omega, show 0 + 1 * h.val = h.val by omega, show 0 + 1 * e.val = e.val by omega]
  | 1 =>
    dsimp only [k₁]; pointwise [k0_pay10, window]
    refine congrArg I.k (funext fun a => Fin.ext ?_)
    fin_cases a
    exacts [rfl, show 0 + 1 * j.val = j.val by omega, show 0 + 1 * h.val = h.val by omega, show 0 + 1 * e.val = e.val by omega]

/-- The values, likewise. -/
theorem values_apply (b : Fin 2) (h : Fin 4) (j : Fin 256) (e : Fin 64) :
    k0_pay11 (match b with | 0 => I.v₀ | 1 => I.v₁) (ix2 j ⟨64 * h.val + e.val, by omega⟩) = I.v (ix4 b j h e) :=
  keys_apply { I with k := I.v } b h j e

/-- A score of the kernel: head `h` of batch `b`, query `i` against key `j`. -/
def score (b : Fin 2) (h : Fin 4) (i j : Fin 256) : EReal :=
  ∑ e : Fin 64, (∑ k : Fin 512, I.x (ix3 b i k) * (I.wq (ix2 k ⟨64 * h.val + e.val, by omega⟩) * Ideal.ofBits .bf16 0x3E00#16)) * I.k (ix4 b j h e)

/-- One entry of the context. -/
theorem context_apply (b : Fin 2) (i : Fin 256) (h : Fin 4) (d : Fin 64) :
    I.context (ix2 ⟨256 * b.val + i.val, by omega⟩ ⟨64 * h.val + d.val, by omega⟩)
      = ∑ j : Fin 256, Ideal.div (Ideal.exp (I.score b h i j + if i.val / 64 = j.val / 64 then 0 else ⊥))
          (∑ t : Fin 256, Ideal.exp (I.score b h i t + if i.val / 64 = t.val / 64 then 0 else ⊥)) * I.v (ix4 b j h d) := by
  have hq : ∀ e : Fin 64, I.q (ix2 ⟨256 * b.val + i.val, by omega⟩ ⟨64 * h.val + e.val, by omega⟩)
      = ∑ k : Fin 512, I.x (ix3 b i k) * (I.wq (ix2 k ⟨64 * h.val + e.val, by omega⟩) * Ideal.ofBits .bf16 0x3E00#16) := by
    intro e
    rw [q_apply]
    have h0 : (⟨(256 * b.val + i.val) / 256, by omega⟩ : Fin 2) = b := Fin.ext (by show _ / 256 = _; omega)
    have h1 : (⟨(256 * b.val + i.val) % 256, by omega⟩ : Fin 256) = i := Fin.ext (by show _ % 256 = _; omega)
    simp only [h0, h1]
  have hi : I.context (ix2 ⟨256 * b.val + i.val, by omega⟩ ⟨64 * h.val + d.val, by omega⟩) = I.tile b h (ix2 i d) := by
    have h0 : (⟨(256 * b.val + i.val) / 256, by omega⟩ : Fin 2) = b := Fin.ext (by show _ / 256 = _; omega)
    have h1 : (⟨(64 * h.val + d.val) / 64, by omega⟩ : Fin 4) = h := Fin.ext (by show _ / 64 = _; omega)
    have h2 : (⟨(256 * b.val + i.val) % 256, by omega⟩ : Fin 256) = i := Fin.ext (by show _ % 256 = _; omega)
    have h3 : (⟨(64 * h.val + d.val) % 64, by omega⟩ : Fin 64) = d := Fin.ext (by show _ % 64 = _; omega)
    show I.tile ⟨(256 * b.val + i.val) / 256, _⟩ ⟨(64 * h.val + d.val) / 64, _⟩ (ix2 ⟨(256 * b.val + i.val) % 256, _⟩ ⟨(64 * h.val + d.val) % 64, _⟩) = _
    rw [h0, h1, h2, h3]
  rw [hi, tile_apply]
  unfold tileAt score
  simp only [hq, keys_apply, values_apply, mask_apply]

end Inputs

/-! ## From the partial products to the result -/

variable (m : (ℓ : Loc nD τ sig) → Buf (Elt Ideal) ℓ)

/-- One entry of the sum of all partial products. -/
def total (r n : Fin 512) : EReal := ∑ s : Dev nD, (ins m s).acc (ix2 r n)

theorem landed_apply (c : Dev nD) (s : Fin 16) (l : Fin 32) (n : Fin 512) :
    landed (parts m) c (ix3 s l n) = if s = c then 0 else (ins m s).acc (ix2 ⟨32 * c.val + l.val, by have := c.isLt; have : c.val < 16 := this; omega⟩ n) := by
  unfold landed
  by_cases h : s = c
  · rw [if_pos h]
    pointwise [k0_pay28]
    simp [h]
  · have h' : s.val ≠ c.val := fun e => h (Fin.ext e)
    rw [if_neg h]
    refine (if_neg h').trans ?_
    exact (ins m s).part_apply _ _

theorem finished_apply (k : Dev nD) (l : Fin 32) (n : Fin 512) :
    finished m k (ix2 l n) = total m ⟨32 * k.val + l.val, by have := k.isLt; have : k.val < 16 := this; omega⟩ n := by
  have hw : window (s := S512x512) (ins m k).acc ![32 * k.val, 0] S32x512.size (inb_rows k) (ix2 l n)
      = (ins m k).acc (ix2 ⟨32 * k.val + l.val, by have := k.isLt; have : k.val < 16 := this; omega⟩ n) := by
    refine congrArg (ins m k).acc (funext fun a => Fin.ext ?_)
    fin_cases a
    exacts [show 32 * k.val + 1 * l.val = 32 * k.val + l.val by omega, show 0 + 1 * n.val = n.val by omega]
  have hp : ∀ (u : Vec Ideal S32x512 .f32) (w : Vec Ideal S16x32x512 .bf16) (A : EReal) (B : Fin 16 → EReal), u (ix2 l n) = A → (∀ s, w (ix3 s l n) = B s)
      → k0_pay29 u w (ix2 l n) = A + ∑ s, B s := by
    intro u w A B hu hw
    pointwise [k0_pay29]
    rw [hu]
    simp only [hw]
  have hs : ∀ f : Fin 16 → EReal, f k + ∑ s, (if s = k then 0 else f s) = ∑ s, f s := by
    intro f
    rw [← Finset.add_sum_erase Finset.univ f (Finset.mem_univ k), ← Finset.add_sum_erase Finset.univ _ (Finset.mem_univ k), if_pos rfl, zero_add]
    exact congrArg _ (Finset.sum_congr rfl fun s hs => if_neg (Finset.ne_of_mem_erase hs))
  exact (hp _ _ _ _ hw fun s => landed_apply m k s l n).trans (hs fun s => (ins m s).acc (ix2 ⟨32 * k.val + l.val, by have := k.isLt; have : k.val < 16 := this; omega⟩ n))

theorem gathered_apply (r n : Fin 512) : gathered m (ix2 r n) = total m r n := by
  have h : (⟨32 * (r.val / 32) + r.val % 32, by omega⟩ : Fin 512) = r := Fin.ext (by show _ * (_ / _) + _ % _ = _; omega)
  have e := finished_apply m (ownerOf r) ⟨r.val % 32, Nat.mod_lt _ (by decide)⟩ n
  exact e.trans (congrArg (fun r => total m r n) h)

theorem result_apply (b : Fin 2) (i : Fin 256) (n : Fin 512) : result m (ix3 b i n) = total m ⟨256 * b.val + i.val, by omega⟩ n := by
  rw [← gathered_apply]
  unfold result outOf
  match b with
  | 0 =>
    refine (if_pos rfl).trans ?_
    pointwise [k0_pay30, window]
    refine congrArg (gathered m) (funext fun a => Fin.ext ?_)
    fin_cases a
    exacts [show 0 + 1 * i.val = i.val by omega, show 0 + 1 * n.val = n.val by omega]
  | 1 =>
    refine (if_neg (by show ¬ (1 = 0); decide)).trans ?_
    pointwise [k0_pay1, window]
    refine congrArg (gathered m) (funext fun a => Fin.ext ?_)
    fin_cases a
    exacts [show 256 + 1 * i.val = 256 + i.val by omega, show 0 + 1 * n.val = n.val by omega]

end Cert.KernelIdealProof

end
-- ==== Proof.KernelIdealHost.lean ====
/-
# What the host stages for the kernel

Before the kernel runs each device cuts its four heads out of the whole key and value arrays; the other three inputs are staged as they come.
-/
module

public import proofs.«01_k».proof.Proof.KernelIdealValue
public import Idealize.ShloMosaic.Lib.StableHlo.RunClose

@[expose] public section

set_option maxRecDepth 16384

noncomputable section

namespace Cert.KernelIdealProof

open Cert.KernelIdeal Cert.KernelIdeal.Gen
open Idealize.ShloMosaic Idealize.ShloMosaic.TcCoe Idealize.ShloMosaic.StableHlo

variable (m : (ℓ : Loc nD τ sig) → Buf (Elt Ideal) ℓ) (c : Dev nD)

/-- Where device `c`'s slice starts, axis by axis: at head `4 c`. -/
def headStart : Fin 4 → Int := ![0, 0, 4 * (c.val : Int), 0]

theorem keys_eq : V1 m c main_v9 = Host.dynamicSlice S2x256x4x64 (m ((c : Thread nD τ).loc main_arg2)) (headStart c) sliceFits_S2x256x64x64_S2x256x4x64 := by
  simp only [V1, hostOps0]
  after_results_simp_entrywise
  refine congrArg (fun s => Host.dynamicSlice S2x256x4x64 (m ((c : Thread nD τ).loc main_arg2)) s sliceFits_S2x256x64x64_S2x256x4x64) (funext fun k => ?_)
  revert c k
  decide +kernel

theorem values_eq : V1 m c main_v14 = Host.dynamicSlice S2x256x4x64 (m ((c : Thread nD τ).loc main_arg3)) (headStart c) sliceFits_S2x256x64x64_S2x256x4x64 := by
  simp only [V1, hostOps0]
  after_results_simp_entrywise
  refine congrArg (fun s => Host.dynamicSlice S2x256x4x64 (m ((c : Thread nD τ).loc main_arg3)) s sliceFits_S2x256x64x64_S2x256x4x64) (funext fun k => ?_)
  revert c k
  decide +kernel

/-- One entry of the slice: head `h` of device `c` is head `4 c + h` of the whole array. -/
theorem slice_apply (x : Vec Ideal S2x256x64x64 .bf16) (b : Fin 2) (j : Fin 256) (h : Fin 4) (e : Fin 64) :
    Host.dynamicSlice S2x256x4x64 x (headStart c) sliceFits_S2x256x64x64_S2x256x4x64 (ix4 b j h e)
      = x (ix4 b j ⟨4 * c.val + h.val, by have := c.isLt; have : c.val < 16 := this; omega⟩ e) := by
  have hs : ∀ a, Host.clampedStart S2x256x64x64 S2x256x4x64 sliceFits_S2x256x64x64_S2x256x4x64.1 (headStart c) a = (![0, 0, 4 * c.val, 0] : Fin 4 → ℕ) a := by
    revert c
    decide +kernel
  refine congrArg x (funext fun a => Fin.ext ?_)
  fin_cases a
  · exact (congrArg (· + b.val) (hs 0)).trans (Nat.zero_add _)
  · exact (congrArg (· + j.val) (hs 1)).trans (Nat.zero_add _)
  · exact congrArg (· + h.val) (hs 2)
  · exact (congrArg (· + e.val) (hs 3)).trans (Nat.zero_add _)

/-- The five staged inputs. -/
theorem ins_x : (ins m c).x = m ((c : Thread nD τ).loc main_arg0) := V1_of m c main_arg0 (by decide)
theorem ins_wq : (ins m c).wq = m ((c : Thread nD τ).loc main_arg1) := V1_of m c main_arg1 (by decide)
theorem ins_wo : (ins m c).wo = m ((c : Thread nD τ).loc main_arg4) := V1_of m c main_arg4 (by decide)
theorem ins_k (b : Fin 2) (j : Fin 256) (h : Fin 4) (e : Fin 64) :
    (ins m c).k (ix4 b j h e) = m ((c : Thread nD τ).loc main_arg2) (ix4 b j ⟨4 * c.val + h.val, by have := c.isLt; have : c.val < 16 := this; omega⟩ e) :=
  (congrFun (keys_eq m c) _).trans (slice_apply c _ b j h e)
theorem ins_v (b : Fin 2) (j : Fin 256) (h : Fin 4) (e : Fin 64) :
    (ins m c).v (ix4 b j h e) = m ((c : Thread nD τ).loc main_arg3) (ix4 b j ⟨4 * c.val + h.val, by have := c.isLt; have : c.val < 16 := this; omega⟩ e) :=
  (congrFun (values_eq m c) _).trans (slice_apply c _ b j h e)

end Cert.KernelIdealProof

end
-- ==== Proof.ReferenceIdealValue.lean ====
/-
# The reference's values, entry by entry

The reference is one formula of its five arguments. It is named in stages here, and each stage read at one entry over the extended reals.
-/
module

public import proofs.«01_k».proof.Proof.Gen.ReferenceIdeal.Run
public import proofs.«01_k».proof.Proof.Softmax
public import Idealize.ShloMosaic.Lib.Pointwise
public import Idealize.ShloMosaic.PureOps.Reduce

@[expose] public section

set_option maxRecDepth 16384

noncomputable section

namespace Cert.ReferenceIdealProof

open Cert.ReferenceIdeal Cert.ReferenceIdeal.Gen Cert.ReferenceIdeal.Value
open Idealize.ShloMosaic Idealize.ShloMosaic.TcCoe

section Stages

variable {F : FTy → Type} [FloatOps F]

/-- The block length, sixty-four. -/
def sixtyFour : IVec S_ 32 := id (constantI S_ 32 64#32)

/-- Four. -/
def four : IVec S_ 32 := id (constantI S_ 32 4#32)

/-- The block of each of the 256 positions. -/
def block : IVec S256 32 := select (andi (cmpi .ne (signi (iotaInDim S256 32 0)) (broadcastInDim S256 ![] bcast_S_S256 (signi sixtyFour))) (cmpi .ne (Host.remsi (iotaInDim S256 32 0) (broadcastInDim S256 ![] bcast_S_S256 sixtyFour)) (broadcastInDim S256 ![] bcast_S_S256 (constantI S_ 32 0#32)))) (subi (Host.divsi (iotaInDim S256 32 0) (broadcastInDim S256 ![] bcast_S_S256 sixtyFour)) (broadcastInDim S256 ![] bcast_S_S256 (constantI S_ 32 1#32))) (Host.divsi (iotaInDim S256 32 0) (broadcastInDim S256 ![] bcast_S_S256 sixtyFour))

/-- The divisor of the remainder: four, since four is not zero. -/
def modulus : IVec S_ 32 := select (cmpi .eq four (constantI S_ 32 0#32)) (constantI S_ 32 1#32) four

/-- The block of the key, along a row. -/
def rowBlock : IVec S1x256 32 := broadcastInDim S1x256 ![1] bcast_S256_S1x256_1 block

/-- The block of the query, along a column. -/
def colBlock : IVec S256x1 32 := broadcastInDim S256x1 ![0] bcast_S256_S256x1_0 block

/-- The key block's remainder by four, signed. -/
def rowRem : IVec S1x256 32 := Host.remsi rowBlock (broadcastInDim S1x256 ![] bcast_S_S1x256 modulus)

/-- The query block's remainder by four, signed. -/
def colRem : IVec S256x1 32 := Host.remsi colBlock (broadcastInDim S256x1 ![] bcast_S_S256x1 modulus)

/-- The key block modulo four. -/
def rowMod : IVec S1x256 32 := select (andi (cmpi .ne (cmpi .slt rowRem (broadcastInDim S1x256 ![] bcast_S_S1x256 (constantI S_ 32 0#32))) (broadcastInDim S1x256 ![] bcast_S_S1x256 (cmpi .slt modulus (constantI S_ 32 0#32)))) (cmpi .ne rowRem (broadcastInDim S1x256 ![] bcast_S_S1x256 (constantI S_ 32 0#32)))) (addi rowRem (broadcastInDim S1x256 ![] bcast_S_S1x256 modulus)) rowRem

/-- The query block modulo four. -/
def colMod : IVec S256x1 32 := select (andi (cmpi .ne (cmpi .slt colRem (broadcastInDim S256x1 ![] bcast_S_S256x1 (constantI S_ 32 0#32))) (broadcastInDim S256x1 ![] bcast_S_S256x1 (cmpi .slt modulus (constantI S_ 32 0#32)))) (cmpi .ne colRem (broadcastInDim S256x1 ![] bcast_S_S256x1 (constantI S_ 32 0#32)))) (addi colRem (broadcastInDim S256x1 ![] bcast_S_S256x1 modulus)) colRem

/-- Which query attends to which key: same block, or blocks that agree modulo four. -/
def mask : IVec S256x256 1 := ori (cmpi .eq (broadcastInDim S256x256 ![0, 1] bcast_S256x1_S256x256_0_1 colBlock) (broadcastInDim S256x256 ![0, 1] bcast_S1x256_S256x256_0_1 rowBlock)) (cmpi .eq (broadcastInDim S256x256 ![0, 1] bcast_S1x256_S256x256_0_1 rowMod) (broadcastInDim S256x256 ![0, 1] bcast_S256x1_S256x256_0_1 colMod))

/-- Which queries attend to anything. -/
def keep : IVec S256 1 := Host.reduce IntOp.ori mask (constantI S_ 1 0#1) reducesTo_S256x256_S256_d1 h_S_

/-- The queries, by head. -/
def query (x : FVec F S2x256x512 .bf16) (wq : FVec F S512x4096 .bf16) : FVec F S2x256x64x64 .f32 :=
  shapeCast _ (Host.dotGeneral dot_S2x256x512_S512x4096_S2x256x4096_2_0_01_1_n_n none (extf .f32 x bitsLt_bf16_f32) (extf .f32 wq bitsLt_bf16_f32)) shapeCasts_S2x256x4096_S2x256x64x64

/-- The scaled scores. -/
def score (x : FVec F S2x256x512 .bf16) (wq : FVec F S512x4096 .bf16) (k : FVec F S2x256x64x64 .bf16) : FVec F S2x64x256x256 .f32 :=
  mulf (Host.dotGeneral dot_S2x256x64x64_S2x256x64x64_S2x64x256x256_3_3_1_1_02_02 none (query x wq) (extf .f32 k bitsLt_bf16_f32)) (broadcastInDim S2x64x256x256 ![] bcast_S_S2x64x256x256 (constant S_ .f32 0x3E000000#32))

/-- Scores with the masked ones at minus infinity. -/
def masked (s : FVec F S2x64x256x256 .f32) : FVec F S2x64x256x256 .f32 :=
  select (broadcastInDim S2x64x256x256 ![0, 1, 2, 3] bcast_S1x1x256x256_S2x64x256x256_0_1_2_3 (broadcastInDim S1x1x256x256 ![2, 3] bcast_S256x256_S1x1x256x256_2_3 mask)) s (broadcastInDim S2x64x256x256 ![] bcast_S_S2x64x256x256 (id (constant S_ .f32 0xFF800000#32)))

/-- Each row's largest score. -/
def rowMax (s : FVec F S2x64x256x256 .f32) : FVec F S2x64x256 .f32 :=
  Host.reduce FloatOps.maximumf s (constant S_ .f32 0xFF800000#32) reducesTo_S2x64x256x256_S2x64x256_d3 h_S_

/-- The exponentials of the shifted scores. -/
def shifted (s : FVec F S2x64x256x256 .f32) : FVec F S2x64x256x256 .f32 :=
  Host.exp (subf s (broadcastInDim S2x64x256x256 ![0, 1, 2, 3] bcast_S2x64x256x1_S2x64x256x256_0_1_2_3 (broadcastInDim S2x64x256x1 ![0, 1, 2] bcast_S2x64x256_S2x64x256x1_0_1_2 (rowMax s))))

/-- The exponentials over their sum. -/
def quotient (e : FVec F S2x64x256x256 .f32) : FVec F S2x64x256x256 .f32 :=
  Host.divf e (broadcastInDim S2x64x256x256 ![0, 1, 2, 3] bcast_S2x64x256x1_S2x64x256x256_0_1_2_3 (select (broadcastInDim S2x64x256x1 ![0, 1, 2, 3] bcast_S1x1x256x1_S2x64x256x1_0_1_2_3 (broadcastInDim S1x1x256x1 ![2] bcast_S256_S1x1x256x1_2 keep)) (broadcastInDim S2x64x256x1 ![0, 1, 2] bcast_S2x64x256_S2x64x256x1_0_1_2 (Host.reduceAdd e (constant S_ .f32 0x00000000#32) reducesTo_S2x64x256x256_S2x64x256_d3 h_S_)) (broadcastInDim S2x64x256x1 ![] bcast_S_S2x64x256x1 (id (constant S_ .f32 0x3F800000#32)))))

/-- The weights: zero where a query attends to nothing. -/
def weight (w : FVec F S2x64x256x256 .f32) : FVec F S2x64x256x256 .f32 :=
  select (broadcastInDim S2x64x256x256 ![0, 1, 2, 3] bcast_S1x1x256x1_S2x64x256x256_0_1_2_3 (broadcastInDim S1x1x256x1 ![2] bcast_S256_S1x1x256x1_2 keep)) w (broadcastInDim S2x64x256x256 ![] bcast_S_S2x64x256x256 (id (constant S_ .f32 0x00000000#32)))

/-- The contexts of all heads, side by side, times the output matrix. -/
def output (v : FVec F S2x256x64x64 .bf16) (wo : FVec F S4096x512 .bf16) (w : FVec F S2x64x256x256 .f32) : FVec F S2x256x512 .f32 :=
  Host.dotGeneral dot_S2x256x4096_S4096x512_S2x256x512_2_0_01_1_n_n none (shapeCast _ (transpose S2x256x64x64 [0, 3, 1, 2] (Host.dotGeneral dot_S2x256x64x64_S2x64x256x256_S2x64x64x256_1_3_3_2_02_01 none (extf .f32 v bitsLt_bf16_f32) w) transposes_S2x64x64x256_S2x256x64x64_0_3_1_2) shapeCasts_S2x256x64x64_S2x256x4096) (extf .f32 wo bitsLt_bf16_f32)

/-- The whole formula. -/
def formula (x : FVec F S2x256x512 .bf16) (wq : FVec F S512x4096 .bf16) (k v : FVec F S2x256x64x64 .bf16) (wo : FVec F S4096x512 .bf16) : FVec F S2x256x512 .f32 :=
  output v wo (weight (quotient (shifted (masked (score x wq k)))))

theorem result_eq (m : (ℓ : Loc nD τ sig) → Buf (Elt F) ℓ) (c : Dev nD) :
    res_main_v44 m c = formula (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := rfl

end Stages

/-! ## The mask -/

theorem block_apply (i : Fin 256) : block (ix1 i) = BitVec.ofNat 32 (i.val / 64) := by
  unfold block sixtyFour
  pointwise
  revert i
  decide +kernel

theorem rowMod_apply (j : Fin 256) : rowMod (ix2 0 j) = BitVec.ofNat 32 (j.val / 64) := by
  unfold rowMod rowRem rowBlock modulus four
  pointwise [block_apply]
  revert j
  decide +kernel

theorem colMod_apply (i : Fin 256) : colMod (ix2 i 0) = BitVec.ofNat 32 (i.val / 64) := by
  unfold colMod colRem colBlock modulus four
  pointwise [block_apply]
  revert i
  decide +kernel

theorem mask_apply (i j : Fin 256) : mask (ix2 i j) = if i.val / 64 = j.val / 64 then 1#1 else 0#1 := by
  unfold mask rowBlock colBlock
  pointwise [block_apply, rowMod_apply, colMod_apply]
  have key : ∀ a b : Fin 4, IntOp.ori (IntOp.cmpi .eq (BitVec.ofNat 32 a.val) (BitVec.ofNat 32 b.val)) (IntOp.cmpi .eq (BitVec.ofNat 32 b.val) (BitVec.ofNat 32 a.val))
      = if a.val = b.val then 1#1 else 0#1 := by decide
  exact key ⟨i.val / 64, by omega⟩ ⟨j.val / 64, by omega⟩

/-- A fold by "or" that meets a one ends at one. -/
theorem foldl_ori_one {ι : Type} (f : ι → BitVec 1) : ∀ (l : List ι) (init : BitVec 1), (init = 1#1 ∨ ∃ n ∈ l, f n = 1#1) → l.foldl (fun r n => IntOp.ori r (f n)) init = 1#1
  | [], _, h => h.elim id fun ⟨_, hn, _⟩ => nomatch hn
  | a :: l, init, h => foldl_ori_one f l _ <| by
    have or_one : ∀ p q : BitVec 1, p = 1#1 ∨ q = 1#1 → IntOp.ori p q = 1#1 := by decide
    rcases h with h | ⟨n, hn, e⟩
    · exact Or.inl (or_one _ _ (Or.inl h))
    · rcases List.mem_cons.1 hn with rfl | hn
      · exact Or.inl (or_one _ _ (Or.inr e))
      · exact Or.inr ⟨n, hn, e⟩

/-- Every query attends to something: to itself. -/
theorem keep_apply (i : Fin 256) : keep (ix1 i) = 1#1 := by
  unfold keep
  rw [Host.reduce_eq_foldl]
  refine foldl_ori_one mask _ _ (Or.inr ⟨ix2 i i, ?_, (mask_apply i i).trans (if_pos rfl)⟩)
  rw [List.mem_filter]
  refine ⟨List.mem_map.2 ⟨S256x256.rowMajor (ix2 i i), List.mem_finRange _, Equiv.symm_apply_apply _ _⟩, decide_eq_true ?_⟩
  funext a
  fin_cases a
  rfl

/-! ## The stages at an entry -/

variable (x : FVec Ideal S2x256x512 .bf16) (wq : FVec Ideal S512x4096 .bf16) (k v : FVec Ideal S2x256x64x64 .bf16) (wo : FVec Ideal S4096x512 .bf16)

/-- A score of the reference. -/
def scoreAt (b : Fin 2) (h : Fin 64) (i j : Fin 256) : EReal :=
  (∑ e : Fin 64, (∑ t : Fin 512, x (ix3 b i t) * wq (ix2 t ⟨64 * h.val + e.val, by omega⟩)) * k (ix4 b j h e)) * Ideal.ofBits .f32 0x3E000000#32

theorem score_apply (b : Fin 2) (h : Fin 64) (i j : Fin 256) : score x wq k (ix4 b h i j) = scoreAt x wq k b h i j := by
  unfold score query scoreAt
  pointwise
  simp only [Nat.mul_comm h.val 64]

theorem masked_apply (s : FVec Ideal S2x64x256x256 .f32) (b : Fin 2) (h : Fin 64) (i j : Fin 256) :
    masked s (ix4 b h i j) = if i.val / 64 = j.val / 64 then s (ix4 b h i j) else ⊥ := by
  unfold masked
  pointwise [mask_apply]
  rw [show id (constant (F := Ideal) S_ .f32 0xFF800000#32) ix0 = ⊥ from Cert.Softmax.minusInf_f32]
  split_ifs <;> rfl

theorem rowMax_apply (s : FVec Ideal S2x64x256x256 .f32) (b : Fin 2) (h : Fin 64) (i : Fin 256) :
    rowMax s (ix3 b h i) = Finset.univ.fold max (⊥ : EReal) fun j : Fin 256 => s (ix4 b h i j) := by
  unfold rowMax
  pointwise [Cert.Softmax.minusInf_f32]

theorem weight_apply (s : FVec Ideal S2x64x256x256 .f32) (b : Fin 2) (h : Fin 64) (i j : Fin 256) :
    weight (quotient (shifted s)) (ix4 b h i j)
      = Ideal.div (Ideal.exp (s (ix4 b h i j) - rowMax s (ix3 b h i))) (∑ t : Fin 256, Ideal.exp (s (ix4 b h i t) - rowMax s (ix3 b h i))) := by
  unfold weight quotient shifted
  pointwise [keep_apply]

theorem output_apply (w : FVec Ideal S2x64x256x256 .f32) (b : Fin 2) (i : Fin 256) (n : Fin 512) :
    output v wo w (ix3 b i n)
      = ∑ t : Fin 4096, (∑ j : Fin 256, v (ix4 b j ⟨t.val / 64, by omega⟩ ⟨t.val % 64, by omega⟩) * w (ix4 b ⟨t.val / 64, by omega⟩ i j)) * wo (ix2 t n) := by
  unfold output
  pointwise

end Cert.ReferenceIdealProof

end
-- ==== Proof.FiniteInputs.lean ====
/-
# The precondition, read entry by entry

The claim asks that every entry of the input, the query weights and the keys has an absolute value below infinity. Over the extended reals that says each of
them is a real number. The two printed predicates' side conditions on shapes are settled here too.
-/
module

public import proofs.«01_k».proof.Defs
public import proofs.«01_k».proof.Proof.Softmax
public import Idealize.ShloMosaic.Lib.ReduceAll
public import Idealize.ShloMosaic.Lib.Pointwise

@[expose] public section

noncomputable section

namespace Cert.Proof.FiniteInputs

open Idealize.ShloMosaic Idealize.ShloMosaic.TcCoe
open Cert.Softmax

instance kernelFacts : Cert.Pre_finite_scores_KernelIdeal.Facts where
  bcast_S_S2x256x512 := by decide
  reducesTo_S2x256x512_S_d0_1_2 := by decide
  h_S_ := by decide
  bcast_S_S512x256 := by decide
  reducesTo_S512x256_S_d0_1 := by decide
  bcast_S_S2x256x64x64 := by decide
  reducesTo_S2x256x64x64_S_d0_1_2_3 := by decide

instance referenceFacts : Cert.Pre_finite_scores_ReferenceIdeal.Facts where
  bcast_S_S2x256x512 := by decide
  reducesTo_S2x256x512_S_d0_1_2 := by decide
  h_S_ := by decide
  bcast_S_S512x4096 := by decide
  reducesTo_S512x4096_S_d0_1 := by decide
  bcast_S_S2x256x64x64 := by decide
  reducesTo_S2x256x64x64_S_d0_1_2_3 := by decide

/-- The shape of a single number has one index. -/
instance : Subsingleton Cert.Pre_finite_scores_KernelIdeal.S_.Idx := ⟨fun a b => funext fun i => i.elim0⟩

/-- A comparison "absolute value below infinity" that holds says the number is real. -/
theorem isReal_of_cmp {a : EReal} (h : Ideal.cmp .olt (FloatOps.absf (F := Ideal) (φ := .bf16) a) (Ideal.ofBits .bf16 0x7F80#16) = 1#1) : IsReal a := by
  rw [inf_bf16] at h
  refine isReal_of_abs_lt_top ?_
  by_contra hn
  have : Ideal.cmp .olt (FloatOps.absf (F := Ideal) (φ := .bf16) a) ⊤ = 0#1 := by
    show BitVec.ofBool (decide (max a (-a) < ⊤)) = 0#1
    rw [decide_eq_false hn]; rfl
  rw [this] at h
  exact absurd h (by decide)

open Cert.Pre_finite_scores_KernelIdeal in
theorem read (x : FVec Ideal S2x256x512 .bf16) (wq : FVec Ideal S512x256 .bf16) (k v : FVec Ideal S2x256x64x64 .bf16) (wo : FVec Ideal S256x512 .bf16)
    (h : fn (F := Ideal) x wq k v wo = fun _ => 1#1) : (∀ i, IsReal (x i)) ∧ (∀ i, IsReal (wq i)) ∧ ∀ i, IsReal (k i) := by
  have h := congrFun h ix0
  unfold fn at h
  obtain ⟨h, hk⟩ := IntOp.andi_eq_one.1 h
  obtain ⟨hx, hw⟩ := IntOp.andi_eq_one.1 h
  exact ⟨fun i => isReal_of_cmp (Host.reduce_andi_all _ _ _ _ _ hx i), fun i => isReal_of_cmp (Host.reduce_andi_all _ _ _ _ _ hw i),
    fun i => isReal_of_cmp (Host.reduce_andi_all _ _ _ _ _ hk i)⟩

end Cert.Proof.FiniteInputs

end
-- ==== Proof.Algebraic.lean ====
/-
# The kernel computes the reference

Entry by entry: device `s` holds heads `4 s` to `4 s + 3`, so its context is a block of 256 columns of the reference's, its partial product a block of the
sum over 4096 columns, and the sum of all partial products the whole.
-/
module

public import proofs.«01_k».proof.Defs
public import proofs.«01_k».proof.Proof.KernelIdealHost
public import proofs.«01_k».proof.Proof.ReferenceIdealValue
public import proofs.«01_k».proof.Proof.FiniteInputs

@[expose] public section

set_option maxRecDepth 16384

noncomputable section

namespace Cert.Proof.Algebraic

open Idealize.ShloMosaic Idealize.ShloMosaic.TcCoe Idealize.SL.Sem
open Cert.Softmax Cert.KernelIdealProof

/-- A sum over 4096 columns, in sixteen blocks of 256. -/
theorem sum_blocks (f : Fin 4096 → EReal) : ∑ t, f t = ∑ s : Fin 16, ∑ t : Fin 256, f ⟨256 * s.val + t.val, by omega⟩ := by
  rw [← Fintype.sum_prod_type']
  refine (Fintype.sum_equiv (finProdFinEquiv (m := 16) (n := 256)) _ _ fun p => ?_).symm
  exact congrArg f (Fin.ext (Nat.add_comm _ _))

section Equation

open Cert.KernelIdeal

theorem lt_sixteen (c : Dev nD) : c.val < 16 := c.isLt

/-- A block of 256 columns, at an entry. -/
theorem block_columns (wq : FVec Ideal ⟨2, ![512, 4096]⟩ .bf16) (c : Dev nD) (i : Fin 512) (t : Fin 256) :
    Layout.block ⟨2, ![512, 256]⟩ ⟨2, ![512, 4096]⟩ 1 16 c wq (by decide) (ix2 i t) = wq (ix2 i ⟨256 * c.val + t.val, by have := lt_sixteen c; omega⟩) := by
  refine congrArg wq (funext fun a => Fin.ext ?_)
  fin_cases a
  · rfl
  · show c.val * 256 + t.val = 256 * c.val + t.val; omega

/-- The global head of a device's head. -/
def head (c : Dev nD) (h : Fin 4) : Fin 64 := ⟨4 * c.val + h.val, by have := lt_sixteen c; omega⟩

/-- The reference's attention weights. -/
def weights (x : FVec Ideal ⟨3, ![2, 256, 512]⟩ .bf16) (wq : FVec Ideal ⟨2, ![512, 4096]⟩ .bf16) (k : FVec Ideal ⟨4, ![2, 256, 64, 64]⟩ .bf16) :
    FVec Ideal ⟨4, ![2, 64, 256, 256]⟩ .f32 :=
  Cert.ReferenceIdealProof.weight (Cert.ReferenceIdealProof.quotient (Cert.ReferenceIdealProof.shifted (Cert.ReferenceIdealProof.masked (Cert.ReferenceIdealProof.score x wq k))))

variable (m : (ℓ : Loc nD τ sig) → Buf (Elt Ideal) ℓ)
  (x : FVec Ideal ⟨3, ![2, 256, 512]⟩ .bf16) (wq : FVec Ideal ⟨2, ![512, 4096]⟩ .bf16) (k v : FVec Ideal ⟨4, ![2, 256, 64, 64]⟩ .bf16) (wo : FVec Ideal ⟨2, ![4096, 512]⟩ .bf16)

/-- Device `c`'s arguments are its parts of the whole arrays, and those the scores are made of are real. -/
structure Placed (c : Dev nD) : Prop where
  hx : m ((c : Thread nD τ).loc main_arg0) = x
  hwq : m ((c : Thread nD τ).loc main_arg1) = Layout.block ⟨2, ![512, 256]⟩ ⟨2, ![512, 4096]⟩ 1 16 c wq
  hk : m ((c : Thread nD τ).loc main_arg2) = k
  hv : m ((c : Thread nD τ).loc main_arg3) = v
  hwo : m ((c : Thread nD τ).loc main_arg4) = Layout.block ⟨2, ![256, 512]⟩ ⟨2, ![4096, 512]⟩ 0 16 c wo
  rx : ∀ i, IsReal (x i)
  rwq : ∀ (i : Fin 512) (t : Fin 256), IsReal (wq (ix2 i ⟨256 * c.val + t.val, by have := lt_sixteen c; omega⟩))
  rk : ∀ i, IsReal (k i)

variable {m x wq k v wo} {c : Dev nD} (P : Placed m x wq k v wo c)
include P

theorem wq_block (i : Fin 512) (t : Fin 256) : (ins m c).wq (ix2 i t) = wq (ix2 i ⟨256 * c.val + t.val, by have := lt_sixteen c; omega⟩) := by
  rw [ins_wq, P.hwq]
  exact block_columns wq c i t

theorem wo_block (t : Fin 256) (n : Fin 512) : (ins m c).wo (ix2 t n) = wo (ix2 ⟨256 * c.val + t.val, by have := lt_sixteen c; omega⟩ n) := by
  rw [ins_wo, P.hwo]
  refine congrArg wo (funext fun a => Fin.ext ?_)
  fin_cases a
  · show c.val * 256 + t.val = 256 * c.val + t.val; omega
  · rfl

/-- A score: the kernel's is the reference's, and real. -/
theorem score_eq (b : Fin 2) (h : Fin 4) (i j : Fin 256) :
    (ins m c).score b h i j = Cert.ReferenceIdealProof.scoreAt x wq k b (head c h) i j ∧ IsReal (Cert.ReferenceIdealProof.scoreAt x wq k b (head c h) i j) := by
  have hw : ∀ (t : Fin 512) (e : Fin 64), (ins m c).wq (ix2 t ⟨64 * h.val + e.val, by omega⟩) = wq (ix2 t ⟨64 * (head c h).val + e.val, by have := (head c h).isLt; omega⟩) := by
    intro t e
    rw [wq_block P]
    refine congrArg (fun u => wq (ix2 t u)) (Fin.ext ?_)
    show 256 * c.val + (64 * h.val + e.val) = 64 * (4 * c.val + h.val) + e.val; omega
  have hr : ∀ (t : Fin 512) (e : Fin 64), IsReal (wq (ix2 t ⟨64 * (head c h).val + e.val, by have := (head c h).isLt; omega⟩)) := by
    intro t e
    rw [← hw, wq_block P]
    exact P.rwq _ _
  have hs := Cert.Softmax.score_eq (fun t => x (ix3 b i t)) (fun t e => wq (ix2 t ⟨64 * (head c h).val + e.val, by have := (head c h).isLt; omega⟩)) (fun e => k (ix4 b j (head c h) e))
    (fun _ => P.rx _) hr (fun _ => P.rk _) (σ := Ideal.ofBits .bf16 0x3E00#16) ⟨_, eighth_bf16⟩
  have he : (Ideal.ofBits .bf16 0x3E00#16 : EReal) = Ideal.ofBits .f32 0x3E000000#32 := eighth_bf16.trans eighth_f32.symm
  unfold Inputs.score Cert.ReferenceIdealProof.scoreAt
  rw [← he]
  refine ⟨?_, hs.2⟩
  refine Eq.trans ?_ hs.1
  refine Finset.sum_congr rfl fun e _ => ?_
  simp only [hw, ins_x, P.hx, ins_k, P.hk]
  rfl

theorem weight_eq (b : Fin 2) (h : Fin 4) (i j : Fin 256) :
    Ideal.div (Ideal.exp ((ins m c).score b h i j + if i.val / 64 = j.val / 64 then 0 else ⊥))
        (∑ t : Fin 256, Ideal.exp ((ins m c).score b h i t + if i.val / 64 = t.val / 64 then 0 else ⊥))
      = weights x wq k (ix4 b (head c h) i j) := by
  have hs := fun j => score_eq P b h i j
  choose S hS using fun j => (hs j).2
  have hm := isReal_rowMax S (fun j => i.val / 64 = j.val / 64) i rfl
  unfold weights
  rw [Cert.ReferenceIdealProof.weight_apply, Cert.ReferenceIdealProof.rowMax_apply]
  simp only [Cert.ReferenceIdealProof.masked_apply, Cert.ReferenceIdealProof.score_apply, (hs _).1, hS]
  exact Cert.Softmax.weight_eq S (fun j => i.val / 64 = j.val / 64) i rfl hm j

/-- The context. -/
theorem context_eq (b : Fin 2) (i : Fin 256) (t : Fin 256) :
    (ins m c).context (ix2 ⟨256 * b.val + i.val, by omega⟩ t)
      = ∑ j : Fin 256, v (ix4 b j ⟨(256 * c.val + t.val) / 64, by have := lt_sixteen c; omega⟩ ⟨(256 * c.val + t.val) % 64, by omega⟩)
          * weights x wq k (ix4 b ⟨(256 * c.val + t.val) / 64, by have := lt_sixteen c; omega⟩ i j) := by
  have ht : t = ⟨64 * (t.val / 64) + t.val % 64, by omega⟩ := Fin.ext (by show _ = 64 * (t.val / 64) + t.val % 64; omega)
  have e := (ins m c).context_apply b i ⟨t.val / 64, by omega⟩ ⟨t.val % 64, by omega⟩
  have hh : (⟨(256 * c.val + t.val) / 64, by have := lt_sixteen c; omega⟩ : Fin 64) = head c ⟨t.val / 64, by omega⟩ :=
    Fin.ext (by show (256 * c.val + t.val) / 64 = 4 * c.val + t.val / 64; omega)
  have hd : (⟨(256 * c.val + t.val) % 64, by omega⟩ : Fin 64) = ⟨t.val % 64, by omega⟩ := Fin.ext (by show _ % 64 = _ % 64; omega)
  rw [hh, hd]
  refine (congrArg (fun t => (ins m c).context (ix2 ⟨256 * b.val + i.val, by omega⟩ t)) ht).trans (e.trans (Finset.sum_congr rfl fun j _ => ?_))
  rw [weight_eq P, ins_v, P.hv, mul_comm]
  rfl

end Equation

open Cert.KernelIdeal in
/-- The result is the reference's formula of the whole arrays. -/
theorem result_eq {m : (ℓ : Loc nD τ sig) → Buf (Elt Ideal) ℓ}
    {x : FVec Ideal ⟨3, ![2, 256, 512]⟩ .bf16} {wq : FVec Ideal ⟨2, ![512, 4096]⟩ .bf16} {k v : FVec Ideal ⟨4, ![2, 256, 64, 64]⟩ .bf16} {wo : FVec Ideal ⟨2, ![4096, 512]⟩ .bf16}
    (P : ∀ c, Placed m x wq k v wo c) : result m = Cert.ReferenceIdealProof.formula x wq k v wo := by
  funext i
  obtain ⟨b, r, n, rfl⟩ : ∃ (b : Fin 2) (r : Fin 256) (n : Fin 512), i = ix3 b r n := ⟨i 0, i 1, i 2, eq_ix3 i⟩
  rw [result_apply]
  unfold Cert.ReferenceIdealProof.formula
  rw [Cert.ReferenceIdealProof.output_apply, sum_blocks]
  unfold total
  refine Finset.sum_congr rfl fun c _ => ?_
  rw [Inputs.acc_apply]
  refine Finset.sum_congr rfl fun t _ => ?_
  rw [context_eq (P c), wo_block (P c)]
  rfl

/-- The two programs, from the same arrays, end with the same result. -/
theorem algebraic : Cert.algebraic_KernelIdeal_ReferenceIdeal_pre_finite_scores_KernelIdeal := by
  intro m g m' g' hpre hin
  have P : ∀ c, Placed m _ _ _ _ _ c := fun c =>
    have hr := FiniteInputs.read _ _ _ _ _ (hpre c)
    { hx := (hin c).1, hwq := (hin c).2.1, hk := (hin c).2.2.1, hv := (hin c).2.2.2.1, hwo := (hin c).2.2.2.2
      rx := fun i => (hin c).1 ▸ hr.1 i
      rk := fun i => (hin c).2.2.1 ▸ hr.2.2 i
      rwq := fun i t => by
        have h := hr.2.1 (ix2 i t)
        rw [(hin c).2.1] at h
        exact (congrArg IsReal (block_columns _ c i t)).mp h }
  refine ⟨_, (θ_run Cert.KernelIdeal.defs _ _).mono (fun r h c => ⟨?_, (h.1 c).1⟩) (Cert.KernelIdealProof.run (F := Ideal) m g),
    (θ_run Cert.ReferenceIdeal.defs _ _).mono (fun r h => h 0) (Cert.ReferenceIdeal.Value.run (F := Ideal) m' g')⟩
  exact (h.1 c).2.trans ((result_eq P).trans (Cert.ReferenceIdealProof.result_eq m' 0).symm)

end Cert.Proof.Algebraic

end
-- ==== Proof.lean ====
module

public import proofs.«01_k».proof.Defs
public import proofs.«01_k».proof.Proof.Frames
public import proofs.«01_k».proof.Proof.Algebraic
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    FiniteInputs.kernelFacts, FiniteInputs.referenceFacts,
    Frames.kernel, Frames.kernelIdeal, fun m g _ => Frames.kernelIdeal m g trivial,
    Frames.reference, fun m g _ => Frames.reference m g trivial, Frames.preserves, Algebraic.algebraic⟩

end Cert.Proof

end
